-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 512, 256]⟩ ⟨3, ![4, 512, 1024]⟩ 2 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4, 256]⟩ ⟨2, ![4, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 256]⟩ ⟨2, ![1024, 256]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x256 : Shape := ⟨3, ![4, 512, 256]⟩
abbrev S4x256 : Shape := ⟨2, ![4, 256]⟩
abbrev S256x256 : Shape := ⟨2, ![256, 256]⟩
abbrev S8 : Shape := ⟨1, ![8]⟩
abbrev S_ : Shape := ⟨0, ![]⟩
abbrev S1x512x256 : Shape := ⟨3, ![1, 512, 256]⟩
abbrev S512x256 : Shape := ⟨2, ![512, 256]⟩
abbrev S1x256 : Shape := ⟨2, ![1, 256]⟩
abbrev S256 : Shape := ⟨1, ![256]⟩
abbrev S511x256 : Shape := ⟨2, ![511, 256]⟩
abbrev S2x256 : Shape := ⟨2, ![2, 256]⟩
abbrev S510x256 : Shape := ⟨2, ![510, 256]⟩
abbrev S3x256 : Shape := ⟨2, ![3, 256]⟩
abbrev S509x256 : Shape := ⟨2, ![509, 256]⟩
abbrev S1 : Shape := ⟨1, ![1]⟩

abbrev nBuf : Space → Nat
  | .hbm => 4
  | .vmem => 8
  | .smem => 0
  | _ => 0

abbrev bufTy : (tb : Table) → Fin (tcTables nBuf tb) → BufTy
  | .hbm, ⟨0, _⟩ => ⟨S4x512x256, .bf16⟩
  | .hbm, ⟨1, _⟩ => ⟨S4x256, .bf16⟩
  | .hbm, ⟨2, _⟩ => ⟨S256x256, .bf16⟩
  | .hbm, ⟨3, _⟩ => ⟨S4x512x256, .bf16⟩
  | .local _ .vmem, ⟨0, _⟩ => ⟨S4x512x256, .bf16⟩
  | .local _ .vmem, ⟨1, _⟩ => ⟨S4x256, .bf16⟩
  | .local _ .vmem, ⟨2, _⟩ => ⟨S256x256, .bf16⟩
  | .local _ .vmem, ⟨3, _⟩ => ⟨S4x512x256, .bf16⟩
  | .local _ .vmem, ⟨4, _⟩ => ⟨S4x512x256, .bf16⟩
  | .local _ .vmem, ⟨5, _⟩ => ⟨S4x512x256, .bf16⟩
  | .local _ .vmem, ⟨6, _⟩ => ⟨S4x512x256, .bf16⟩
  | .local _ .vmem, ⟨7, _⟩ => ⟨S4x512x256, .bf16⟩
  | _, _ => ⟨S4x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_22 : BitVec 32 := 1#32
  let v55 : BitVec 32 := Scalar.muli v3 c1_i32_22
  let v56 : BitVec 32 := Scalar.addi c0_i32_23 v55
  v56.toNat
def k0_dev4 (d0 : Dev nD) : Nat :=
  let c0_i32_42 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_41 : BitVec 32 := 1#32
  let v106 : BitVec 32 := Scalar.muli v4 c1_i32_41
  let v107 : BitVec 32 := Scalar.addi c0_i32_42 v106
  v107.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_60 : BitVec 32 := 1#32
  let v157 : BitVec 32 := Scalar.muli v3 c1_i32_60
  let v158 : BitVec 32 := Scalar.addi c0_i32_61 v157
  v158.toNat
def k0_dev6 (d0 : Dev nD) : Nat :=
  let c0_i32_80 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_79 : BitVec 32 := 1#32
  let v208 : BitVec 32 := Scalar.muli v4 c1_i32_79
  let v209 : BitVec 32 := Scalar.addi c0_i32_80 v208
  v209.toNat
def k0_dev7 (d0 : Dev nD) : Nat :=
  let c0_i32_118 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_117 : BitVec 32 := 1#32
  let v240 : BitVec 32 := Scalar.muli v4 c1_i32_117
  let v241 : BitVec 32 := Scalar.addi c0_i32_118 v240
  v241.toNat
def k0_dev8 (d0 : Dev nD) : Nat :=
  let c0_i32_155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_154 : BitVec 32 := 1#32
  let v272 : BitVec 32 := Scalar.muli v3 c1_i32_154
  let v273 : BitVec 32 := Scalar.addi c0_i32_155 v272
  v273.toNat
def k0_dev9 (d0 : Dev nD) : Nat :=
  let c0_i32_192 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_191 : BitVec 32 := 1#32
  let v304 : BitVec 32 := Scalar.muli v4 c1_i32_191
  let v305 : BitVec 32 := Scalar.addi c0_i32_192 v304
  v305.toNat
def k0_dev10 (d0 : Dev nD) : Nat :=
  let c0_i32_229 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_228 : BitVec 32 := 1#32
  let v336 : BitVec 32 := Scalar.muli v3 c1_i32_228
  let v337 : BitVec 32 := Scalar.addi c0_i32_229 v336
  v337.toNat
abbrev stage0_0 : Fin 1 → Memref sig .tc .vmem S4x512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x512x1024 : Shape := ⟨3, ![4, 512, 1024]⟩
abbrev S4x1024 : Shape := ⟨2, ![4, 1024]⟩
abbrev S1024x256 : Shape := ⟨2, ![1024, 256]⟩
abbrev S_ : Shape := ⟨0, ![]⟩
abbrev S4x3x1024 : Shape := ⟨3, ![4, 3, 1024]⟩
abbrev S4x515x1024 : Shape := ⟨3, ![4, 515, 1024]⟩
abbrev S1x1024 : Shape := ⟨2, ![1, 1024]⟩
abbrev S1024 : Shape := ⟨1, ![1024]⟩
abbrev S1x1x1024 : Shape := ⟨3, ![1, 1, 1024]⟩
abbrev S4x512x256 : Shape := ⟨3, ![4, 512, 256]⟩

abbrev nBuf : Space → Nat
  | .hbm => 47
  | .vmem => 0
  | .smem => 0
  | _ => 0

abbrev bufTy : (tb : Table) → Fin (tcTables nBuf tb) → BufTy
  | .hbm, ⟨0, _⟩ => ⟨S4x512x1024, .bf16⟩
  | .hbm, ⟨1, _⟩ => ⟨S4x1024, .bf16⟩
  | .hbm, ⟨2, _⟩ => ⟨S1024x256, .bf16⟩
  | .hbm, ⟨3, _⟩ => ⟨S4x512x1024, .f32⟩
  | .hbm, ⟨4, _⟩ => ⟨S4x1024, .f32⟩
  | .hbm, ⟨5, _⟩ => ⟨S1024x256, .f32⟩
  | .hbm, ⟨6, _⟩ => ⟨S_, .f32⟩
  | .hbm, ⟨7, _⟩ => ⟨S4x3x1024, .f32⟩
  | .hbm, ⟨8, _⟩ => ⟨S4x515x1024, .f32⟩
  | .hbm, ⟨9, _⟩ => ⟨S_, .f32⟩
  | .hbm, ⟨10, _⟩ => ⟨S4x512x1024, .f32⟩
  | .hbm, ⟨11, _⟩ => ⟨S4x512x1024, .f32⟩
  | .hbm, ⟨12, _⟩ => ⟨S1x1024, .f32⟩
  | .hbm, ⟨13, _⟩ => ⟨S1024, .f32⟩
  | .hbm, ⟨14, _⟩ => ⟨S1x1x1024, .f32⟩
  | .hbm, ⟨15, _⟩ => ⟨S4x512x1024, .f32⟩
  | .hbm, ⟨16, _⟩ => ⟨S4x512x1024, .f32⟩
  | .hbm, ⟨17, _⟩ => ⟨S4x512x1024, .f32⟩
  | .hbm, ⟨18, _⟩ => ⟨S4x512x1024, .f32⟩
  | .hbm, ⟨19, _⟩ => ⟨S1x1024, .f32⟩
  | .hbm, ⟨20, _⟩ => ⟨S1024, .f32⟩
  | .hbm, ⟨21, _⟩ => ⟨S1x1x1024, .f32⟩
  | .hbm, ⟨22, _⟩ => ⟨S4x512x1024, .f32⟩
  | .hbm, ⟨23, _⟩ => ⟨S4x512x1024, .f32⟩
  | .hbm, ⟨24, _⟩ => ⟨S4x512x1024, .f32⟩
  | .hbm, ⟨25, _⟩ => ⟨S4x512x1024, .f32⟩
  | .hbm, ⟨26, _⟩ => ⟨S1x1024, .f32⟩
  | .hbm, ⟨27, _⟩ => ⟨S1024, .f32⟩
  | .hbm, ⟨28, _⟩ => ⟨S1x1x1024, .f32⟩
  | .hbm, ⟨29, _⟩ => ⟨S4x512x1024, .f32⟩
  | .hbm, ⟨30, _⟩ => ⟨S4x512x1024, .f32⟩
  | .hbm, ⟨31, _⟩ => ⟨S4x512x1024, .f32⟩
  | .hbm, ⟨32, _⟩ => ⟨S4x512x1024, .f32⟩
  | .hbm, ⟨33, _⟩ => ⟨S1x1024, .f32⟩
  | .hbm, ⟨34, _⟩ => ⟨S1024, .f32⟩
  | .hbm, ⟨35, _⟩ => ⟨S1x1x1024, .f32⟩
  | .hbm, ⟨36, _⟩ => ⟨S4x512x1024, .f32⟩
  | .hbm, ⟨37, _⟩ => ⟨S4x512x1024, .f32⟩
  | .hbm, ⟨38, _⟩ => ⟨S4x512x1024, .f32⟩
  | .hbm, ⟨39, _⟩ => ⟨S4x512x1024, .f32⟩
  | .hbm, ⟨40, _⟩ => ⟨S4x512x1024, .f32⟩
  | .hbm, ⟨41, _⟩ => ⟨S_, .f32⟩
  | .hbm, ⟨42, _⟩ => ⟨S4x512x1024, .f32⟩
  | .hbm, ⟨43, _⟩ => ⟨S4x512x1024, .f32⟩
  | .hbm, ⟨44, _⟩ => ⟨S4x512x1024, .f32⟩
  | .hbm, ⟨45, _⟩ => ⟨S4x512x256, .f32⟩
  | .hbm, ⟨46, _⟩ => ⟨S4x512x256, .bf16⟩
  | _, _ => ⟨S4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_1 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩

abbrev nD : Nat := 1
abbrev τ : Topo := Topo.v7x

variable {F : FTy → Type} [FloatOps F]
-- ==== Proof.Channels.lean ====
/-
The devices, buffers, semaphores and copies of the kernel, named.

The four devices form a square: `side true` exchanges within the pairs {0,1} and {2,3}, `side false` within {0,3} and
{1,2}. A channel is a phase (0 or 1) and a chunk (0 to 3): on it a device copies chunk slot `i` of that phase's
send buffer into slot `i` of the landing buffer of its partner on the channel, and every channel has its own pair of
semaphores. In phase 0 the chunks 0 and 1 go over `side true` and 2 and 3 over `side false`; in phase 1 the other way.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Devices -/

set_option backward.proofsInPublic true in
/-- The partner of `c`: `c` with its lowest bit flipped, or `3 - c`. -/
def side (b : Bool) (c : Dev nD) : Dev nD := if b then ⟨(c.val + 1) % 2 + 2 * (c.val / 2), by have : c.val < 4 := c.isLt; show _ < 4; omega⟩ else ⟨3 - c.val, by show _ < 4; omega⟩

theorem side_side (b : Bool) (c : Dev nD) : side b (side b c) = c := by revert b c; decide
theorem side_comm (c : Dev nD) : side true (side false c) = side false (side true c) := by revert c; decide

def sideEquiv (b : Bool) : Dev nD ≃ Dev nD := ⟨side b, side b, side_side b, side_side b⟩

/-- A phase and a chunk. -/
abbrev Chan : Type := Fin 2 × Fin 4

/-- Which of the two partners a channel goes to. -/
def way (j : Chan) : Bool := (j.1 == 0) == decide (j.2.val < 2)
def peer (j : Chan) (c : Dev nD) : Dev nD := side (way j) c

theorem peer_peer (j : Chan) (c : Dev nD) : peer j (peer j c) = c := side_side _ _
def peerEquiv (j : Chan) : Dev nD ≃ Dev nD := ⟨peer j, peer j, peer_peer j, peer_peer j⟩

theorem dev1_eq (c : Dev nD) : (⟨k0_dev1 c, k0_dev1_lt c⟩ : Dev nD) = side true c := by revert c; decide +kernel
theorem dev2_eq (c : Dev nD) : (⟨k0_dev2 c, k0_dev2_lt c⟩ : Dev nD) = side false c := by revert c; decide +kernel
theorem dev3_eq (c : Dev nD) : (⟨k0_dev3 c, k0_dev3_lt c⟩ : Dev nD) = peer (0, 0) c := by revert c; decide +kernel
theorem dev4_eq (c : Dev nD) : (⟨k0_dev4 c, k0_dev4_lt c⟩ : Dev nD) = peer (0, 2) c := by revert c; decide +kernel
theorem dev5_eq (c : Dev nD) : (⟨k0_dev5 c, k0_dev5_lt c⟩ : Dev nD) = peer (0, 1) c := by revert c; decide +kernel
theorem dev6_eq (c : Dev nD) : (⟨k0_dev6 c, k0_dev6_lt c⟩ : Dev nD) = peer (0, 3) c := by revert c; decide +kernel
theorem dev7_eq (c : Dev nD) : (⟨k0_dev7 c, k0_dev7_lt c⟩ : Dev nD) = peer (1, 0) c := by revert c; decide +kernel
theorem dev8_eq (c : Dev nD) : (⟨k0_dev8 c, k0_dev8_lt c⟩ : Dev nD) = peer (1, 2) c := by revert c; decide +kernel
theorem dev9_eq (c : Dev nD) : (⟨k0_dev9 c, k0_dev9_lt c⟩ : Dev nD) = peer (1, 1) c := by revert c; decide +kernel
theorem dev10_eq (c : Dev nD) : (⟨k0_dev10 c, k0_dev10_lt c⟩ : Dev nD) = peer (1, 3) c := by revert c; decide +kernel

/-! ## Buffers and their chunk slots -/

abbrev Buf4 : Type := Memref sig .tc .vmem S4x512x256 .bf16

abbrev xM : Buf4 := Memref.whole cc0_stg0_0
abbrev kM : Memref sig .tc .vmem S4x256 .bf16 := Memref.whole cc0_stg1_0
abbrev wM : Memref sig .tc .vmem S256x256 .bf16 := Memref.whole cc0_stg2_0
abbrev oM : Buf4 := Memref.whole cc0_stg3_0

/-- The send buffer of a phase and the landing buffer of a phase. -/
abbrev sendB : Fin 2 → Buf4 := fun | 0 => Memref.whole cc0_scratch0 | 1 => Memref.whole cc0_scratch2
abbrev landB : Fin 2 → Buf4 := fun | 0 => Memref.whole cc0_scratch1 | 1 => Memref.whole cc0_scratch3

theorem inb (i : Fin 4) : ∀ a, (![i.val, 0, 0] : Fin 3 → Nat) a + S1x512x256.size a ≤ S4x512x256.size a := by revert i; decide
/-- Chunk slot `i` of a four-chunk buffer. -/
abbrev slot (i : Fin 4) : Rect S4x512x256 := Rect.unit (s := S4x512x256) ![i.val, 0, 0] S1x512x256.size (inb i)

abbrev slotM (b : Buf4) (i : Fin 4) : Memref sig .tc .vmem S1x512x256 .bf16 := b.slice (slot i) (fun _ => rfl)
abbrev flatM (b : Buf4) (i : Fin 4) : Memref sig .tc .vmem S512x256 .bf16 := (slotM b i).squeeze S512x256 squeezes_S1x512x256_S512x256

abbrev srcM (j : Chan) : Memref sig .tc .vmem S1x512x256 .bf16 := slotM (sendB j.1) j.2
abbrev dstM (j : Chan) : Memref sig .tc .vmem S1x512x256 .bf16 := slotM (landB j.1) j.2
abbrev srcQ (j : Chan) : Memref sig .tc .vmem S512x256 .bf16 := flatM (sendB j.1) j.2
abbrev dstQ (j : Chan) : Memref sig .tc .vmem S512x256 .bf16 := flatM (landB j.1) j.2

theorem sendB_whole : ∀ p, (sendB p).IsWhole := fun | 0 => Memref.isWhole_whole _ | 1 => Memref.isWhole_whole _
theorem landB_whole : ∀ p, (landB p).IsWhole := fun | 0 => Memref.isWhole_whole _ | 1 => Memref.isWhole_whole _

theorem slot_words : ∀ i : Fin 4, (slot i).WholeWords (EltTy.packing .bf16) := fun
  | 0 => wordsbf16_S4x512x256_S1x512x256_0_0_0 | 1 => wordsbf16_S4x512x256_S1x512x256_1_0_0
  | 2 => wordsbf16_S4x512x256_S1x512x256_2_0_0 | 3 => wordsbf16_S4x512x256_S1x512x256_3_0_0
theorem slot_rows : ∀ i : Fin 4, (slot i).PackedRows (EltTy.packing .bf16) := fun
  | 0 => packedbf16_S4x512x256_S1x512x256_0_0_0 | 1 => packedbf16_S4x512x256_S1x512x256_1_0_0
  | 2 => packedbf16_S4x512x256_S1x512x256_2_0_0 | 3 => packedbf16_S4x512x256_S1x512x256_3_0_0

theorem slot_disjoint (i i' : Fin 4) (h : i ≠ i') : Disjoint (slot i).set (slot i').set := by
  rw [Finset.disjoint_left]
  intro p hp hp'
  rw [← Rect.map_emb_univ, Finset.mem_map] at hp hp'
  obtain ⟨q, -, rfl⟩ := hp
  obtain ⟨q', -, e⟩ := hp'
  have h0 := congrArg (fun r : S4x512x256.Idx => (r 0).val) e
  have hq : (q 0).val < 1 := (q 0).isLt
  have hq' : (q' 0).val < 1 := (q' 0).isLt
  have e1 : (((slot i).emb q) 0).val = i.val + 1 * (q 0).val := rfl
  have e2 : (((slot i').emb q') 0).val = i'.val + 1 * (q' 0).val := rfl
  exact h (Fin.ext (by simp only [Function.Embedding.coeFn_mk] at h0; omega))

/-- The place of an index inside its chunk slot. -/
def inSlot (p : S4x512x256.Idx) : S1x512x256.Idx := fun | 0 => ⟨0, by decide⟩ | 1 => p 1 | 2 => p 2

theorem slot_emb_inSlot (p : S4x512x256.Idx) : (slot (p 0)).emb (inSlot p) = p := by
  funext a; apply Fin.ext
  fin_cases a
  · show (p 0).val + 1 * 0 = (p 0).val; omega
  · show 0 + 1 * (p 1).val = (p 1).val; omega
  · show 0 + 1 * (p 2).val = (p 2).val; omega

theorem slot_cover : (Finset.univ : Finset (Fin 4)).biUnion (fun i => (slot i).set) = Finset.univ := by
  ext p
  refine ⟨fun _ => Finset.mem_univ _, fun _ => Finset.mem_biUnion.mpr ⟨p 0, Finset.mem_univ _, ?_⟩⟩
  rw [← Rect.map_emb_univ, Finset.mem_map]
  exact ⟨inSlot p, Finset.mem_univ _, slot_emb_inSlot p⟩

theorem slot_emb_zero (i : Fin 4) (q : S1x512x256.Idx) : ((slot i).emb q) 0 = i := by
  apply Fin.ext
  have hq : (q 0).val < 1 := (q 0).isLt
  show i.val + 1 * (q 0).val = i.val; omega
theorem inSlot_emb (i : Fin 4) (q : S1x512x256.Idx) : inSlot ((slot i).emb q) = q := by
  funext a; apply Fin.ext
  fin_cases a
  · have hq : (q 0).val < 1 := (q 0).isLt
    show 0 = (q 0).val; omega
  · show 0 + 1 * (q 1).val = (q 1).val; omega
  · show 0 + 1 * (q 2).val = (q 2).val; omega

/-- Four chunks put together. -/
def glue {A : Type} (Y : Fin 4 → S1x512x256.Idx → A) (p : S4x512x256.Idx) : A := Y (p 0) (inSlot p)
theorem glue_emb {A : Type} (Y : Fin 4 → S1x512x256.Idx → A) (i : Fin 4) : (fun q => glue Y ((slot i).emb q)) = Y i := by
  funext q; show Y _ _ = _; rw [slot_emb_zero, inSlot_emb]

/-! ## Semaphores -/

theorem inb8 (j : Chan) : ∀ a, (![4 * j.1.val + j.2.val] : Fin 1 → Nat) a + S1.size a ≤ S8.size a := by revert j; decide

abbrev barS : Sem sig := (SemArray.scalar (sig.barrier 0 rfl) : Sems sig S_).sem
abbrev sendS (j : Chan) : DmaSem sig := ((cc0_scratch4.slice (Rect.unit (s := S8) ![4 * j.1.val + j.2.val] S1.size (inb8 j))).squeeze S_ squeezes_S1_S_).sem
abbrev recvS (j : Chan) : DmaSem sig := ((cc0_scratch5.slice (Rect.unit (s := S8) ![4 * j.1.val + j.2.val] S1.size (inb8 j))).squeeze S_ squeezes_S1_S_).sem

theorem sendS_val (j : Chan) : (sendS j).val = 4 + (4 * j.1.val + j.2.val) := by revert j; decide
theorem recvS_val (j : Chan) : (recvS j).val = 12 + (4 * j.1.val + j.2.val) := by revert j; decide

abbrev barCell (c : Dev nD) : GSem nD τ sig := ((c : Thread nD τ), .reg barS)
abbrev sendCell (c : Dev nD) (j : Chan) : GSem nD τ sig := ((c : Thread nD τ), .dma (sendS j))
abbrev recvCell (c : Dev nD) (j : Chan) : GSem nD τ sig := ((c : Thread nD τ), .dma (recvS j))

/-- The kernel's own semaphores, and with the barrier all of those the exchange uses. -/
abbrev osem : Chan ⊕ Chan → SemLoc sig := fun | .inl j => .dma (sendS j) | .inr j => .dma (recvS j)
abbrev csem : Unit ⊕ (Chan ⊕ Chan) → SemLoc sig := fun | .inl _ => .reg barS | .inr o => osem o

theorem sendS_inj {j j' : Chan} (h : sendS j = sendS j') : j = j' := by revert j j'; decide
theorem recvS_inj {j j' : Chan} (h : recvS j = recvS j') : j = j' := by revert j j'; decide
theorem send_ne_recv (j j' : Chan) : sendS j ≠ recvS j' := by revert j j'; decide

/-- What one copy credits its two semaphores. -/
abbrev N : ℕ := (dstQ (0, 0)).view.dmaCredit
theorem N_pos : 0 < N := View.dmaCredit_pos _ (by decide)
theorem dst_credit : ∀ j, (dstQ j).view.dmaCredit = N := by rintro ⟨p, i⟩; fin_cases p <;> fin_cases i <;> rfl
theorem src_credit : ∀ j, (srcQ j).view.dmaCredit = N := by rintro ⟨p, i⟩; fin_cases p <;> fin_cases i <;> rfl

end Cert.KProof

end
-- ==== Proof.Steps.lean ====
/-
The kernel's body as a sequence of named steps: handshake, compute a chunk and send it, receive and add and send on,
receive and add and write out. `body_eq` says that the printed body is this sequence.
-/
module

public import proofs.«01_k».proof.Proof.Channels

@[expose] public section

noncomputable section

namespace Cert.KProof

open Cert.KernelIdeal Cert.KernelIdeal.Gen

open Idealize.ShloMosaic
open Idealize.ShloMosaic.TcCoe
open Idealize.SL.Sem

variable {F : FTy → Type} [FloatOps F]

abbrev Chunk (F : FTy → Type) : Type := Vec F S1x512x256 .bf16
abbrev ℙ (F : FTy → Type) [FloatOps F] : Type 1 := Prog (TpuEff nD τ sig (Elt F) Λ₀ Proc.tc) PUnit.{1}

/-- What a device computes of one chunk of `x`: the causal convolution, the gate, the projection. -/
def chunkF (k : Vec F S4x256 .bf16) (w : Vec F S256x256 .bf16) (x : Chunk F) : Chunk F := k0_pay13 (k0_pay2 k) (k0_pay3 w) x
/-- The sum of two chunks. -/
def sumF (a b : Chunk F) : Chunk F := k0_pay16 a b

def sigP (d : Dev nD) (k : ℙ F) : ℙ F := .op (.semSignal (Dev.tc d : Thread nD τ) barS (1#32 : BitVec 32).toInt) fun _ => k
def barP (k : ℙ F) : ℙ F := .op (.semWait barS (2#32 : BitVec 32).toInt) fun _ => k

def getP (b : Buf4) (i : Fin 4) (k : Chunk F → ℙ F) : ℙ F :=
  .op (.load b (slot i).toLoadRect (View.loadsAt_vmem h_S1x512x256)) k
def putP (b : Buf4) (hb : b.IsWhole) (i : Fin 4) (v : Chunk F) (k : ℙ F) : ℙ F :=
  getP b i fun _ => .op (.store b (slot i) v Finset.univ (View.stores_vmem h_S1x512x256 (hb.storeExact_slice rfl _ (slot_rows i)) (fun _ => rfl)) (.inl rfl)) fun _ => k
def sendP (j : Chan) (n : Dev nD) (k : ℙ F) : ℙ F :=
  .op (.enqueueDma (srcQ j) (.remote (Dev.tc n) (dstQ j) (.dma (sendS j))) (.dma (recvS j))
    (((sendB_whole j.1).wordExact_slice rfl _ (slot_words j.2)).reshape _ _) (((landB_whole j.1).wordExact_slice rfl _ (slot_words j.2)).reshape _ _)
    ⟨⟨rfl, Or.inl rfl⟩, trivial⟩) fun _ => k
def waitSP (j : Chan) (k : ℙ F) : ℙ F :=
  .op (.waitDma2 (sendS j) (dstQ j) (srcQ j) (((landB_whole j.1).wordExact_slice rfl _ (slot_words j.2)).reshape _ _)
    (((sendB_whole j.1).wordExact_slice rfl _ (slot_words j.2)).reshape _ _)) fun _ => k
def waitRP (j : Chan) (k : ℙ F) : ℙ F :=
  .op (.waitDma2 (recvS j) (srcQ j) (dstQ j) (((sendB_whole j.1).wordExact_slice rfl _ (slot_words j.2)).reshape _ _)
    (((landB_whole j.1).wordExact_slice rfl _ (slot_words j.2)).reshape _ _)) fun _ => k

/-- Put a computed chunk in its send slot. -/
def stageP (j : Chan) (v : Chunk F) (k : ℙ F) : ℙ F := putP (sendB j.1) (sendB_whole j.1) j.2 v k
/-- Wait for both ends of a channel and read what was sent and what arrived. -/
def joinP (j : Chan) (k : Chunk F → Chunk F → ℙ F) : ℙ F :=
  waitSP j <| waitRP j <| getP (sendB j.1) j.2 fun a => getP (landB j.1) j.2 fun b => k a b
def midP (i : Fin 4) (n : Dev nD) (k : ℙ F) : ℙ F := joinP (0, i) fun a b => stageP (1, i) (sumF a b) <| sendP (1, i) n k
def finP (i : Fin 4) (k : ℙ F) : ℙ F := joinP (1, i) fun a b => putP oM (Memref.isWhole_whole _) i (sumF a b) k

abbrev kR : Rect S4x256 := Rect.unit (s := S4x256) ![0, 0] S4x256.size inb_S4x256_S4x256_0_0
abbrev wR : Rect S256x256 := Rect.unit (s := S256x256) ![0, 0] S256x256.size inb_S256x256_S256x256_0_0
def readsP (k : Vec F S4x256 .bf16 → Vec F S256x256 .bf16 → ℙ F) : ℙ F :=
  .op (.load kM kR.toLoadRect (View.loadsAt_vmem h_S4x256)) fun kv =>
  .op (.load wM wR.toLoadRect (View.loadsAt_vmem h_S256x256)) fun wv => k kv wv

def computeP (kv : Vec F S4x256 .bf16) (wv : Vec F S256x256 .bf16) (i : Fin 4) (k : ℙ F) : ℙ F :=
  getP xM i fun x => stageP (0, i) (chunkF kv wv x) k

/-- The second half: every chunk on through phase 1 and out. -/
def tailP (d : Dev nD) : ℙ F :=
  midP 0 (⟨k0_dev7 d, k0_dev7_lt d⟩) <| midP 2 (⟨k0_dev8 d, k0_dev8_lt d⟩) <| midP 1 (⟨k0_dev9 d, k0_dev9_lt d⟩) <| midP 3 (⟨k0_dev10 d, k0_dev10_lt d⟩) <|
  finP 0 <| finP 2 <| finP 1 <| finP 3 <| .ret ⟨⟩

def bodyP : ℙ F :=
  .op .deviceId fun d =>
  sigP ⟨k0_dev1 d, k0_dev1_lt d⟩ <| sigP ⟨k0_dev2 d, k0_dev2_lt d⟩ <| readsP fun kv wv =>
  computeP kv wv 0 <| barP <| sendP (0, 0) ⟨k0_dev3 d, k0_dev3_lt d⟩ <|
  computeP kv wv 2 <| sendP (0, 2) ⟨k0_dev4 d, k0_dev4_lt d⟩ <|
  computeP kv wv 1 <| sendP (0, 1) ⟨k0_dev5 d, k0_dev5_lt d⟩ <|
  computeP kv wv 3 <| sendP (0, 3) ⟨k0_dev6 d, k0_dev6_lt d⟩ <| tailP d

set_option maxRecDepth 100000 in
set_option maxHeartbeats 4000000 in
theorem body_eq : cc0_body xM (Memref.isWhole_whole _) kM (Memref.isWhole_whole _) wM (Memref.isWhole_whole _) oM (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _) cc0_scratch4 cc0_scratch5 = bodyP (F := F) := by
  rfl

end Cert.KProof

end
-- ==== Proof.Protocol.lean ====
/-
The exchange under the rounds library: what each semaphore's increments mean, what every device owes, and the order of
the waits.

A device's barrier semaphore takes one unit from each partner; partner `side b c` hands over, with its unit, its landing
slots of the channels on which `c` sends to it. The send semaphore of a channel gives the send slot back with what was
in it; its receive semaphore gives the landing slot holding what the partner sent. Waits are ordered: barrier, then the
receive semaphores of phase 0, then those of phase 1.
-/
module

public import proofs.«01_k».proof.Proof.Steps

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## What is computed -/

def xstg (c : Dev nD) : (cc0_stg0_0 : Ref sig .tc).ty.Contents (Elt F) :=
  (win0_0.blk (0 : Fin 1)).view.read (Elt F) ((s₀ m ρ).mem ((c : Thread nD τ).loc main_arg0))
def kstg (c : Dev nD) : (cc0_stg1_0 : Ref sig .tc).ty.Contents (Elt F) :=
  (win0_1.blk (0 : Fin 1)).view.read (Elt F) ((s₀ m ρ).mem ((c : Thread nD τ).loc main_arg1))
def wstg (c : Dev nD) : (cc0_stg2_0 : Ref sig .tc).ty.Contents (Elt F) :=
  (win0_2.blk (0 : Fin 1)).view.read (Elt F) ((s₀ m ρ).mem ((c : Thread nD τ).loc main_arg2))

/-- Chunk `i` of a device's `x`. -/
def xChunk (c : Dev nD) (i : Fin 4) : Chunk F := fun q => xstg m ρ c ((slot i).emb q)
/-- A device's own share of chunk `i` of the result. -/
def part (c : Dev nD) (i : Fin 4) : Chunk F := chunkF (kstg m ρ c) (wstg m ρ c) (xChunk m ρ c i)
/-- What a device sends on a channel. -/
def sent : Chan → Dev nD → Chunk F
  | (0, i), c => part m ρ c i
  | (1, i), c => sumF (part m ρ c i) (part m ρ (peer (0, i) c) i)
/-- What a device writes as chunk `i` of the result. -/
def outC (c : Dev nD) (i : Fin 4) : Chunk F := sumF (sent m ρ (1, i) c) (sent m ρ (1, i) (peer (1, i) c))
def outAt (c : Dev nD) : (cc0_stg3_0 : Ref sig .tc).ty.Contents (Elt F) := glue (outC m ρ c)

/-! ## The schedule -/

abbrev Cl : Type := Unit ⊕ (Chan ⊕ Chan)

theorem csem_injective : Function.Injective csem := by
  rintro (_ | j | j) (_ | j' | j') h
  · rfl
  · cases h
  · cases h
  · cases h
  · rw [sendS_inj (SemLoc.dma.inj h)]
  · exact absurd (SemLoc.dma.inj h) (send_ne_recv _ _)
  · cases h
  · exact absurd (SemLoc.dma.inj h).symm (send_ne_recv _ _)
  · rw [recvS_inj (SemLoc.dma.inj h)]

/-- Which of the exchange's semaphores one is, if any. -/
def role (s : SemLoc sig) : Option Cl := Function.partialInv csem s
theorem role_csem (o : Cl) : role (csem o) = some o := Function.partialInv_left csem_injective o
theorem role_bar : role (.reg barS) = some (.inl ()) := role_csem (.inl ())
theorem role_send (j : Chan) : role (.dma (sendS j)) = some (.inr (.inl j)) := role_csem (.inr (.inl j))
theorem role_recv (j : Chan) : role (.dma (recvS j)) = some (.inr (.inr j)) := role_csem (.inr (.inr j))

abbrev kcell (ck : Dev nD × Cl) : GSem nD τ sig := ((ck.1 : Thread nD τ), csem ck.2)
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- Some contents in a landing slot of device `d`. -/
def landing (d : Dev nD) (j : Chan) : sProp 𝕄 := iprop(∃ X, owns (d : Thread nD τ) (dstM j) fullShare X)
/-- The landing slots of `side b c` into which `c` sends. -/
def barPay (c : Dev nD) (b : Bool) : sProp 𝕄 := bigSep (Finset.univ.filter fun j : Chan => way j = b) fun j => landing (F := F) (side b c) j
def sendPay (c : Dev nD) (j : Chan) : sProp 𝕄 := owns (c : Thread nD τ) (srcM j) fullShare (sent m ρ j c)
def recvPay (c : Dev nD) (j : Chan) : sProp 𝕄 := owns (c : Thread nD τ) (dstM j) fullShare (sent m ρ j (peer j c))

omit [FloatOps F] in
instance landing_storable (d : Dev nD) (j : Chan) : BI.Storable (upEmb : UEmb _ 𝕄) (landing (F := F) d j) := by unfold landing; infer_instance
omit [FloatOps F] in
instance barPay_storable (c : Dev nD) (b : Bool) : BI.Storable (upEmb : UEmb _ 𝕄) (barPay (F := F) c b) := by unfold barPay; infer_instance
instance sendPay_storable (c : Dev nD) (j : Chan) : BI.Storable (upEmb : UEmb _ 𝕄) (sendPay m ρ c j) := by unfold sendPay; infer_instance
instance recvPay_storable (c : Dev nD) (j : Chan) : BI.Storable (upEmb : UEmb _ 𝕄) (recvPay m ρ c j) := by unfold recvPay; infer_instance

def dutiesOf : Option Cl → Finset Bool
  | some (.inl _) => Finset.univ
  | some (.inr _) => {false}
  | none => ∅
def amountOf' : Option Cl → ℕ
  | some (.inl _) => 1
  | _ => N
def payOf (c : Dev nD) (b : Bool) : Option Cl → sProp 𝕄
  | some (.inl _) => barPay (F := F) c b
  | some (.inr (.inl j)) => sendPay m ρ c j
  | some (.inr (.inr j)) => recvPay m ρ c j
  | none => iprop(emp)

def Rd : Rounds.Schedule (GSem nD τ sig) Bool 𝕄 where
  duties g r := if r = 0 ∧ g.1.2 = .tc then dutiesOf (role g.2) else ∅
  unitless _ := False
  amount g _ _ := amountOf' (role g.2)
  payload g _ b := payOf m ρ g.1.1 b (role g.2)
  amount_pos g _ _ _ := by
    rcases role g.2 with _ | _ | _
    · exact N_pos
    · exact Nat.one_pos
    · exact N_pos

instance Rd_payload_storable (g : GSem nD τ sig) (r : ℕ) (b : Bool) : BI.Storable (upEmb : UEmb _ 𝕄) ((Rd m ρ).payload g r b) := by
  show BI.Storable upEmb (payOf m ρ g.1.1 b (role g.2))
  rcases role g.2 with _ | _ | j | j <;> unfold payOf <;> dsimp only <;> infer_instance

section Sched
variable (c : Dev nD) (j : Chan) (b : Bool)

theorem duties_at (o : Cl) : (Rd m ρ).duties ((c : Thread nD τ), csem o) 0 = dutiesOf (some o) := by
  dsimp only [Rd]; rw [if_pos ⟨rfl, rfl⟩, role_csem]
theorem duties_bar : (Rd m ρ).duties (barCell c) 0 = Finset.univ := duties_at m ρ c (.inl ())
theorem duties_send : (Rd m ρ).duties (sendCell c j) 0 = {false} := duties_at m ρ c (.inr (.inl j))
theorem duties_recv : (Rd m ρ).duties (recvCell c j) 0 = {false} := duties_at m ρ c (.inr (.inr j))
theorem duties_later (g : GSem nD τ sig) : ∀ r, 1 ≤ r → (Rd m ρ).duties g r = ∅ :=
  fun r hr => by dsimp only [Rd]; rw [if_neg fun h => by omega]

theorem amount_bar : (Rd m ρ).amount (barCell c) 0 b = 1 := by dsimp only [Rd]; rw [role_bar]; rfl
theorem amount_send : (Rd m ρ).amount (sendCell c j) 0 b = N := by dsimp only [Rd]; rw [role_send]; rfl
theorem amount_recv : (Rd m ρ).amount (recvCell c j) 0 b = N := by dsimp only [Rd]; rw [role_recv]; rfl

theorem expect_bar : (Rd m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_send : (Rd m ρ).expect (sendCell c j) 0 = N := by
  unfold Schedule.expect Schedule.amountOf; rw [duties_send, Finset.sum_singleton, amount_send]
theorem expect_recv : (Rd m ρ).expect (recvCell c j) 0 = N := by
  unfold Schedule.expect Schedule.amountOf; rw [duties_recv, Finset.sum_singleton, amount_recv]

theorem payload_bar : (Rd m ρ).payload (barCell c) 0 b = barPay c b := by dsimp only [Rd]; rw [role_bar]; rfl
theorem payload_send : (Rd m ρ).payload (sendCell c j) 0 b = sendPay m ρ c j := by dsimp only [Rd]; rw [role_send]; rfl
theorem payload_recv : (Rd m ρ).payload (recvCell c j) 0 b = recvPay m ρ c j := by dsimp only [Rd]; rw [role_recv]; rfl

/-- The whole barrier round hands over every slot the device sends into. -/
theorem rest_bar : bigSep ((Rd m ρ).duties (barCell c) 0 \ ∅) (fun d => (Rd m ρ).payload (barCell c) 0 d)
    = bigSep Finset.univ fun j : Chan => landing (F := F) (peer j c) j := by
  have e (b : Bool) : (barPay c b : sProp 𝕄) = bigSep (Finset.univ.filter fun j : Chan => way j = b) fun j => landing (F := F) (peer j c) j := by
    unfold barPay
    exact bigSep_congr fun j hj => by rw [peer, (Finset.mem_filter.mp hj).2]
  rw [Finset.sdiff_empty, duties_bar, bigSep_univ_eq_bigSepL [true, false] (by decide) (by decide), bigSepL_cons_cons, bigSepL_singleton,
    payload_bar, payload_bar, e, e, bigSep_filter_split Finset.univ (fun j : Chan => way j = true)]
  simp only [Bool.not_eq_true]
theorem rest_send : bigSep ((Rd m ρ).duties (sendCell c j) 0 \ ∅) (fun d => (Rd m ρ).payload (sendCell c j) 0 d) = sendPay m ρ c j := by
  rw [Finset.sdiff_empty, duties_send, bigSep_singleton, payload_send]
theorem rest_recv : bigSep ((Rd m ρ).duties (recvCell c j) 0 \ ∅) (fun d => (Rd m ρ).payload (recvCell c j) 0 d) = recvPay m ρ c j := by
  rw [Finset.sdiff_empty, duties_recv, bigSep_singleton, payload_recv]

end Sched

/-! ## What a device owes, and the order of waits -/

/-- The credits of the copies still to be started, the next one first. -/
def toSend : List Chan → Dev nD → CellTallies nD τ sig Unit
  | [], _ => 0
  | j :: l, c => toSend l c + tallyAt (recvCell (peer j c) j) () N

/-- The channels in the order in which the kernel starts their copies. -/
abbrev order : List Chan := [(0, 0), (0, 2), (0, 1), (0, 3), (1, 0), (1, 2), (1, 1), (1, 3)]

def O₁ (c : Dev nD) : CellTallies nD τ sig Unit := toSend order c + tallyAt (barCell (side false c)) () 1
def O₀ (c : Dev nD) : CellTallies nD τ sig Unit := O₁ c + tallyAt (barCell (side true c)) () 1

def L (g : GSem nD τ sig) : Finset Unit := if g.1.2 = .tc then {()} else ∅
def lvOf : Option Cl → ℕ
  | some (.inl _) => 1
  | some (.inr (.inr j)) => 2 + j.1.val
  | _ => 0
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [role_bar]; rfl
theorem lv_send (c : Dev nD) (j : Chan) : lv (sendCell c j) () = 0 := by unfold lv; rw [role_send]; rfl
theorem lv_recv (c : Dev nD) (j : Chan) : lv (recvCell c j) () = 2 + j.1.val := by unfold lv; rw [role_recv]; rfl
theorem lv_other (c : Dev nD) (s : SemLoc sig) (h : ∀ o, csem o ≠ s) : lv ((c : Thread nD τ), s) () = 0 := by
  unfold lv role Function.partialInv
  rw [dif_neg (fun ⟨o, ho⟩ => h o ho)]; rfl

theorem toSend_pos {l : List Chan} {c : Dev nD} {g : GSem nD τ sig} {u : Unit} (h : 0 < toSend l c g u) :
    ∃ j ∈ l, g = recvCell (peer j c) j := by
  induction l with
  | nil => exact absurd h (Nat.lt_irrefl 0)
  | cons j l ih =>
    by_cases hg : g = recvCell (peer j c) j
    · exact ⟨j, List.mem_cons_self, hg⟩
    · unfold toSend at h
      rw [Pi.add_apply, Finsupp.add_apply, tallyAt_apply, if_neg (fun h' => hg h'.1), Nat.add_zero] at h
      obtain ⟨j', hj', e⟩ := ih h
      exact ⟨j', List.mem_cons_of_mem _ hj', e⟩

theorem O₀_pos {c : Dev nD} {g : GSem nD τ sig} {u : Unit} (h : 0 < O₀ c g u) :
    (∃ j ∈ order, g = recvCell (peer j c) j) ∨ ∃ b, g = barCell (side b c) := by
  by_cases h1 : g = barCell (side true c)
  · exact .inr ⟨_, h1⟩
  by_cases h2 : g = barCell (side false c)
  · exact .inr ⟨_, h2⟩
  unfold O₀ O₁ at h
  rw [Pi.add_apply, Finsupp.add_apply, Pi.add_apply, Finsupp.add_apply, tallyAt_apply, if_neg (fun h' => h2 h'.1), tallyAt_apply,
    if_neg (fun h' => h1 h'.1), Nat.add_zero] at h
  exact .inl (toSend_pos h)

omit [FloatOps F] in
/-- A device may wait at a semaphore of lower level than every one it owes. -/
theorem mayWait_below (c : Dev nD) (s : SemLoc sig) (n : ℕ) (hs : lv ((c : Thread nD τ), s) () ≤ n) (O : CellTallies nD τ sig Unit)
    (hO : ∀ g u, 0 < O g u → g.1.2 = .tc ∧ n < lv g ()) : (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs) (fun g u hg => (hO g u hg).2)

omit [FloatOps F] in
theorem mayWait_toSend (c : Dev nD) (s : SemLoc sig) (l : List Chan) (hs : ∀ j ∈ l, lv ((c : Thread nD τ), s) () < 2 + j.1.val) :
    (levAts L lv : sProp 𝕄) ⊢ MayWait (c : Thread nD τ) s () (toSend l c) :=
  mayWait_below c s _ le_rfl _ fun g u hg => by
    obtain ⟨j, hj, rfl⟩ := toSend_pos hg
    exact ⟨rfl, by rw [lv_recv]; exact hs j hj⟩

omit [FloatOps F] in
theorem mayWait_first (c : Dev nD) (s : SemLoc sig) (h : ∀ o, csem o ≠ s) (O : CellTallies nD τ sig Unit) (hO : O = O₀ c ∨ O = 0) :
    (levAts L lv : sProp 𝕄) ⊢ MayWait (c : Thread nD τ) s () O := by
  rcases hO with rfl | rfl
  · refine mayWait_below c s 0 (le_of_eq (lv_other c s h)) _ fun g u hg => ?_
    rcases O₀_pos hg with ⟨j, -, rfl⟩ | ⟨b, rfl⟩
    · exact ⟨rfl, by rw [lv_recv]; omega⟩
    · exact ⟨rfl, by rw [lv_bar]; decide⟩
  · rw [MayWait_zero]; iintro -; iempintro

end Cert.KProof

end
-- ==== Proof.Moves.lean ====
/-
One rule for each step of the body, generic in the channel: reading and writing a chunk slot, starting a copy, waiting
for its two ends, and the three composites the body is made of. `sound_body` runs the body with them.
-/
module

public import proofs.«01_k».proof.Proof.Protocol
public import Idealize.ShloMosaic.Lib.ViewIndex

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Running `p` on device `c`. -/
abbrev runs (c : Dev nD) (p : ℙ F) (Q : PUnit.{1} → sProp 𝕄) : sProp 𝕄 :=
  wp frame (wpE (defs₀ (F := F)) 𝒱₀ (c : Thread nD τ) none) Set.univ p Q

/-! ## Chunk slots -/

/-- Device `c` owns chunk slot `i` of `b`, holding `X`. -/
abbrev has (c : Dev nD) (b : Buf4) (i : Fin 4) (X : Chunk F) : sProp 𝕄 := owns (c : Thread nD τ) (slotM b i) fullShare X
/-- It owns the slot, whatever is in it. -/
def free (c : Dev nD) (b : Buf4) (i : Fin 4) : sProp 𝕄 := iprop(∃ X, has (F := F) c b i X)

theorem get_step (c : Dev nD) (b : Buf4) (i : Fin 4) (X : Chunk F) (k : Chunk F → ℙ F) (Q : PUnit.{1} → sProp 𝕄) :
    has c b i X ⊢ iprop((has c b i X -∗ runs c (k X) Q) -∗ runs c (getP b i k) Q) := by
  unfold has owns getP
  iintro ⟨%f, %hf, H⟩ Hk
  iapply (wp_load_rect 𝒱₀ (c : Thread nD τ) none Set.univ (m := b) (r := slot i) (f := f) subset_rfl) $$ H; iintro H
  rw [show (b.access (slot i)).read (Elt F) f = X from hf]
  iapply Hk
  iexists f; isplitr; · ipureintro; exact hf
  iexact H

theorem put_step (c : Dev nD) (b : Buf4) (hb : b.IsWhole) (i : Fin 4) (v : Chunk F) (k : ℙ F) (Q : PUnit.{1} → sProp 𝕄) :
    free c b i ⊢ iprop((has c b i v -∗ runs c k Q) -∗ runs c (putP b hb i v k) Q) := by
  unfold free putP
  iintro ⟨%X, H⟩ Hk
  iapply (get_step c b i X _ Q) $$ H; iintro H
  unfold has owns
  icases H with ⟨%f, %hf, H⟩
  iapply (wp_store 𝒱₀ (c : Thread nD τ) none Set.univ (m := b) (r := slot i) (Mk := Finset.univ) (f := f) (by rw [View.setOn_univ])) $$ H; iintro H
  iapply Hk
  iexists _; isplitr
  · ipureintro; exact View.read_write_univ (v := b.access (slot i)) f v
  iexact H

/-! ## Channels -/

abbrev invAt (K : Dev nD × Cl → ℕ) (ck : Dev nD × Cl) : sProp 𝕄 := cellInv ER (Rd m ρ) (K ck) (kcell ck)

/-- What every device knows: each cell's invariant, that its first round is open, and the levels. -/
def known (K : Dev nD × Cl → ℕ) : sProp 𝕄 :=
  iprop((bigSep Finset.univ fun ck => invAt m ρ K ck) ∗ (bigSep Finset.univ fun ck => reached ER (kcell ck) 0) ∗ levAts L lv)

/-- What a device still owes, its waits so far unnamed. -/
def debt (c : Dev nD) (O : CellTallies nD τ sig Unit) : sProp 𝕄 := iprop(∃ W, owes (c : Thread nD τ) O W)

/-- A channel before its copy is started. -/
def idle (c : Dev nD) (j : Chan) : sProp 𝕄 :=
  iprop(atPos ER (sendCell c j) 0 ∅ 0 ∗ atPos ER (recvCell c j) 0 ∅ 0 ∗ dutyTok ER (sendCell c j) 0 false
    ∗ dutyTok ER (recvCell (peer j c) j) 0 false ∗ cred (tallyAt (recvCell c j) () N))
/-- After it. -/
def flying (c : Dev nD) (j : Chan) : sProp 𝕄 :=
  iprop(atPos ER (sendCell c j) 0 ∅ 0 ∗ atPos ER (recvCell c j) 0 ∅ 0 ∗ cred (tallyAt (sendCell c j) () N) ∗ cred (tallyAt (recvCell c j) () N))
/-- Both ends waited for: both slots are the device's again, and both semaphores are at zero. -/
def closed2 (c : Dev nD) (j : Chan) : sProp 𝕄 :=
  iprop(has c (sendB j.1) j.2 (sent m ρ j c) ∗ has c (landB j.1) j.2 (sent m ρ j (peer j c)) ∗ semVal (sendCell c j) 0 ∗ semVal (recvCell c j) 0)

variable (K : Dev nD × Cl → ℕ)

instance known_persistent : BI.Persistent (known m ρ K) := by unfold known; infer_instance

theorem known_inv (ck : Dev nD × Cl) : known m ρ K ⊢ invAt m ρ K ck := by
  unfold known; iintro ⟨H, -, -⟩; iapply (show (bigSep Finset.univ fun ck => invAt m ρ K ck) ⊢ invAt m ρ K ck from bigSep_elim (Finset.mem_univ ck)); iexact H
theorem known_reached (ck : Dev nD × Cl) : known m ρ K ⊢ reached ER (kcell ck) 0 := by
  unfold known; iintro ⟨-, H, -⟩; iapply (show (bigSep Finset.univ fun ck => (reached ER (kcell ck) 0 : sProp 𝕄)) ⊢ reached ER (kcell ck) 0 from bigSep_elim (Finset.mem_univ ck)); iexact H
theorem known_levels : known m ρ K ⊢ levAts L lv := by
  unfold known; iintro ⟨-, -, H⟩; iexact H

theorem wp_copy_on (j : Chan) (c n : Dev nD) (hn : n = peer j c) (k : ℙ F) (Q : PUnit.{1} → sProp 𝕄)
    (fs : Buf (Elt F) ((srcQ j).view.loc (c : Thread nD τ))) (fd : Buf (Elt F) ((dstQ j).view.loc (n : Thread nD τ)))
    (hfs : (srcM j).view.read (Elt F) fs = sent m ρ j c) (O : CellTallies nD τ sig Unit) (W : Waits sig Unit) :
    iprop(invAt m ρ K (c, .inr (.inl j)) ∗ invAt m ρ K (n, .inr (.inr j))
        ∗ ((srcQ j).view.loc (c : Thread nD τ) ↦[(srcQ j).view.set]{fullShare} fs)
        ∗ ((dstQ j).view.loc (n : Thread nD τ) ↦[(dstQ j).view.set]{fullShare} fd)
        ∗ owes (c : Thread nD τ) (O + tallyAt (recvCell n j) () N) W
        ∗ dutyTok ER (sendCell c j) 0 false ∗ reached ER (sendCell c j) 0
        ∗ dutyTok ER (recvCell n j) 0 false ∗ reached ER (recvCell n j) 0)
      ⊢ iprop(((cred (tallyAt (sendCell c j) () N) ∗ owes (c : Thread nD τ) O W) -∗ runs c k Q) -∗ runs c (sendP j n k) Q) := by
  unfold sendP
  refine Rounds.wp_send_pointsTo 𝒱₀ ER (Rd m ρ) (c : Thread nD τ) none (κ₁ := K (c, .inr (.inl j))) (κ₂ := K (n, .inr (.inr j)))
    (src := srcQ j) (fs := fs) (k := fun _ => k) (r₁ := 0) (r₂ := 0) (d₁ := false) (d₂ := false) (fd := fd)
    (by rw [duties_send]; exact Finset.mem_singleton_self _) (by rw [duties_recv]; exact Finset.mem_singleton_self _)
    () () N (by exact dst_credit j) (amount_send m ρ c j false) (amount_recv m ρ n j false) O rfl (W := W) ?_ ?_
  · rw [payload_send]; unfold sendPay
    refine Entails.trans (Entails.of_eq ?_) ((owns_intro (c : Thread nD τ) (srcM j) fullShare fs).trans (Entails.of_eq (by rw [hfs])))
    rw [show (srcQ j).view.set = (srcM j).view.set from View.set_reshape _ _]
  · rw [payload_recv]; unfold recvPay
    refine Entails.trans (Entails.of_eq ?_) ((owns_intro (n : Thread nD τ) (dstM j) fullShare
      ((dstQ j).view.write (Elt F) fd ((srcQ j).view.read (Elt F) fs) Finset.univ)).trans (Entails.of_eq (congrArg _ ?_)))
    · rw [show (dstQ j).view.set = (dstM j).view.set from View.set_reshape _ _]
    · subst hn
      rw [peer_peer, ← hfs]
      funext x
      obtain ⟨y, rfl⟩ := (Shape.reshapeEquiv (s := S1x512x256) (s' := S512x256) squeezes_S1x512x256_S512x256.numel_eq).surjective x
      exact View.read_write_reshape (dstM j).view _ fd _ y

theorem send_step (j : Chan) (c n : Dev nD) (hn : n = peer j c) (l : List Chan) (k : ℙ F) (Q : PUnit.{1} → sProp 𝕄) :
    iprop(known m ρ K ∗ idle (F := F) c j ∗ landing (F := F) (peer j c) j ∗ has c (sendB j.1) j.2 (sent m ρ j c) ∗ debt (F := F) c (toSend (j :: l) c))
      ⊢ iprop(((flying (F := F) c j ∗ debt (F := F) c (toSend l c)) -∗ runs c k Q) -∗ runs c (sendP j n k) Q) := by
  rw [show toSend (j :: l) c = toSend l c + tallyAt (recvCell (peer j c) j) () N from rfl]
  unfold idle landing debt has owns
  iintro ⟨#HK, ⟨HaS, HaR, HtS, HtR, HcR⟩, ⟨%X, %fd, %hfd, Hd⟩, ⟨%fs, %hfs, Hs⟩, ⟨%W, HO⟩⟩ Hk
  iapply (wp_copy_on m ρ K j c n hn k Q fs (by rw [hn]; exact fd) hfs (toSend l c) W) $$ [Hd Hs HO HtS HtR]
  · subst hn
    isplitr; · iapply (known_inv m ρ K (c, .inr (.inl j))); iexact HK
    isplitr; · iapply (known_inv m ρ K (peer j c, .inr (.inr j))); iexact HK
    isplitl [Hs]; · rw [show (srcQ j).view.set = (srcM j).view.set from View.set_reshape _ _]; iexact Hs
    isplitl [Hd]; · rw [show (dstQ j).view.set = (dstM j).view.set from View.set_reshape _ _]; iexact Hd
    isplitl [HO]; · iexact HO
    isplitl [HtS]; · iexact HtS
    isplitr; · iapply (known_reached m ρ K (c, .inr (.inl j))); iexact HK
    isplitl [HtR]; · iexact HtR
    iapply (known_reached m ρ K (peer j c, .inr (.inr j))); iexact HK
  iintro ⟨HcS, HO⟩
  iapply Hk
  unfold flying
  isplitr [HO]
  · isplitl [HaS]; · iexact HaS
    isplitl [HaR]; · iexact HaR
    isplitl [HcS] <;> iassumption
  · iexists W; iexact HO

theorem join_step (j : Chan) (c : Dev nD) (l : List Chan) (hl : ∀ j' ∈ l, j.1 < j'.1) (k : Chunk F → Chunk F → ℙ F) (Q : PUnit.{1} → sProp 𝕄) :
    iprop(known m ρ K ∗ flying (F := F) c j ∗ debt (F := F) c (toSend l c))
      ⊢ iprop(((closed2 m ρ c j ∗ debt (F := F) c (toSend l c)) -∗ runs c (k (sent m ρ j c) (sent m ρ j (peer j c))) Q) -∗ runs c (joinP j k) Q) := by
  unfold flying debt joinP waitSP waitRP
  iintro ⟨#HK, ⟨HaS, HaR, HcS, HcR⟩, ⟨%W, HO⟩⟩ Hk
  iapply (Rounds.wp_wait_rest_token 𝒱₀ ER (Rd m ρ) (c : Thread nD τ) none (κ := K (c, .inr (.inl j)))
      (wpE_waitDma2_eq 𝒱₀ (c : Thread nD τ) none Set.univ) (Set.mem_univ _) () (O := toSend l c) (W := W) (R := 0) (m := 0) (T := ∅)
      (by rw [Nat.zero_add, expect_send])) $$ [HcS HO HaS]
  · isplitr; · iapply (known_inv m ρ K (c, .inr (.inl j))); iexact HK
    isplitl [HcS]; · rw [src_credit j]; iexact HcS
    isplitl [HO]; · iexact HO
    isplitr
    · iapply (mayWait_toSend c _ l (fun j' _ => by rw [lv_send]; omega)); iapply (known_levels m ρ K); iexact HK
    iexact HaS
  iintro ⟨HO, HaS, -, Hpay⟩
  ihave HS := (Entails.of_eq (rest_send m ρ c j)) $$ Hpay
  iapply (Rounds.wp_wait_rest_token 𝒱₀ ER (Rd m ρ) (c : Thread nD τ) none (κ := K (c, .inr (.inr j)))
      (wpE_waitDma2_eq 𝒱₀ (c : Thread nD τ) none Set.univ) (Set.mem_univ _) () (O := toSend l c) (R := 0) (m := 0) (T := ∅)
      (by rw [Nat.zero_add, expect_recv])) $$ [HcR HO HaR]
  · isplitr; · iapply (known_inv m ρ K (c, .inr (.inr j))); iexact HK
    isplitl [HcR]; · rw [dst_credit j]; iexact HcR
    isplitl [HO]; · iexact HO
    isplitr
    · iapply (mayWait_toSend c _ l (fun j' hj' => by rw [lv_recv]; exact Nat.add_lt_add_left (hl j' hj') 2)); iapply (known_levels m ρ K); iexact HK
    iexact HaR
  iintro ⟨HO, HaR, -, Hpay⟩
  ihave HR := (Entails.of_eq (rest_recv m ρ c j)) $$ Hpay
  imod (Rounds.cell_close ER (Rd m ρ) (Set.mem_univ (K (c, .inr (.inl j)))) (fun h => h) (R := 0 + 1) (duties_later m ρ (sendCell c j))) $$ [HaS] with HzS
  · isplitr; · iapply (known_inv m ρ K (c, .inr (.inl j))); iexact HK
    iexact HaS
  imod (Rounds.cell_close ER (Rd m ρ) (Set.mem_univ (K (c, .inr (.inr j)))) (fun h => h) (R := 0 + 1) (duties_later m ρ (recvCell c j))) $$ [HaR] with HzR
  · isplitr; · iapply (known_inv m ρ K (c, .inr (.inr j))); iexact HK
    iexact HaR
  unfold sendPay recvPay
  iapply (get_step c (sendB j.1) j.2 _ _ Q) $$ HS; iintro HS
  iapply (get_step c (landB j.1) j.2 _ _ Q) $$ HR; iintro HR
  iapply Hk
  unfold closed2
  isplitr [HO]
  · isplitl [HS]; · iexact HS
    isplitl [HR]; · iexact HR
    isplitl [HzS] <;> iassumption
  · iexists _; iexact HO

/-! ## The composites -/

theorem compute_step (c : Dev nD) (i : Fin 4) (k : ℙ F) (Q : PUnit.{1} → sProp 𝕄) :
    iprop(has c xM i (xChunk m ρ c i) ∗ free (F := F) c (sendB 0) i)
      ⊢ iprop(((has c xM i (xChunk m ρ c i) ∗ has c (sendB 0) i (sent m ρ (0, i) c)) -∗ runs c k Q)
          -∗ runs c (computeP (kstg m ρ c) (wstg m ρ c) i k) Q) := by
  unfold computeP stageP
  iintro ⟨Hx, Hs⟩ Hk
  iapply (get_step c xM i _ _ Q) $$ Hx; iintro Hx
  iapply (put_step c (sendB 0) (sendB_whole 0) i (sent m ρ (0, i) c) k Q) $$ Hs; iintro Hs
  iapply Hk
  isplitl [Hx] <;> iassumption

theorem mid_step (c n : Dev nD) (i : Fin 4) (hn : n = peer (1, i) c) (l : List Chan) (hl : ∀ j ∈ l, (0 : Fin 2) < j.1) (k : ℙ F) (Q : PUnit.{1} → sProp 𝕄) :
    iprop(known m ρ K ∗ flying (F := F) c (0, i) ∗ idle (F := F) c (1, i) ∗ free (F := F) c (sendB 1) i ∗ landing (F := F) (peer (1, i) c) (1, i)
        ∗ debt (F := F) c (toSend ((1, i) :: l) c))
      ⊢ iprop(((closed2 m ρ c (0, i) ∗ flying (F := F) c (1, i) ∗ debt (F := F) c (toSend l c)) -∗ runs c k Q) -∗ runs c (midP i n k) Q) := by
  unfold midP stageP
  iintro ⟨#HK, Hf, Hi, Hs, Hl, HO⟩ Hk
  iapply (join_step m ρ K (0, i) c ((1, i) :: l) (fun j' hj' => (List.mem_cons.mp hj').elim (fun h => by rw [h]; exact Fin.zero_lt_one) (hl j')) _ Q) $$ [Hf HO]
  · isplitr; · iexact HK
    isplitl [Hf] <;> iassumption
  iintro ⟨Hc, HO⟩
  iapply (put_step c (sendB 1) (sendB_whole 1) i (sent m ρ (1, i) c) _ Q) $$ Hs; iintro Hs
  iapply (send_step m ρ K (1, i) c n hn l k Q) $$ [Hi Hl Hs HO]
  · isplitr; · iexact HK
    isplitl [Hi]; · iexact Hi
    isplitl [Hl]; · iexact Hl
    isplitl [Hs] <;> iassumption
  iintro ⟨Hf, HO⟩
  iapply Hk
  isplitl [Hc]; · iexact Hc
  isplitl [Hf] <;> iassumption

theorem fin_step (c : Dev nD) (i : Fin 4) (k : ℙ F) (Q : PUnit.{1} → sProp 𝕄) :
    iprop(known m ρ K ∗ flying (F := F) c (1, i) ∗ free (F := F) c oM i ∗ debt (F := F) c (toSend [] c))
      ⊢ iprop(((closed2 m ρ c (1, i) ∗ has c oM i (outC m ρ c i) ∗ debt (F := F) c (toSend [] c)) -∗ runs c k Q) -∗ runs c (finP i k) Q) := by
  unfold finP
  iintro ⟨#HK, Hf, Ho, HO⟩ Hk
  iapply (join_step m ρ K (1, i) c [] (fun j' hj' => absurd hj' List.not_mem_nil) _ Q) $$ [Hf HO]
  · isplitr; · iexact HK
    isplitl [Hf] <;> iassumption
  iintro ⟨Hc, HO⟩
  iapply (put_step c oM (Memref.isWhole_whole _) i (outC m ρ c i) k Q) $$ Ho; iintro Ho
  iapply Hk
  isplitl [Hc]; · iexact Hc
  isplitl [Ho] <;> iassumption

end Cert.KProof

end
-- ==== Proof.Body.lean ====
/-
The body, run from what a device holds at the start to what it holds at the end.
-/
module

public import proofs.«01_k».proof.Proof.Moves

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Whole buffers and their four slots -/

omit [FloatOps F] in
theorem split_slots (c : Dev nD) (b : Buf4) (X : S4x512x256.Idx → Elt F .bf16) :
    (owns (c : Thread nD τ) b fullShare X : sProp 𝕄) ⊢ bigSep Finset.univ fun i => has c b i (fun q => X ((slot i).emb q)) :=
  owns_rects (c : Thread nD τ) b fullShare slot (fun _ _ => rfl) slot_disjoint slot_cover X

theorem join_slots (c : Dev nD) (b : Buf4) (Y : Fin 4 → Chunk F) :
    (bigSep Finset.univ fun i => has c b i (Y i)) ⊢ (owns (c : Thread nD τ) b fullShare (glue Y) : sProp 𝕄) := by
  refine Entails.trans (Entails.of_eq ?_) (owns_of_rects (c : Thread nD τ) b fullShare slot (fun _ _ => rfl) slot_disjoint slot_cover (glue Y))
  exact bigSep_congr fun i _ => by rw [glue_emb]

omit [FloatOps F] in
theorem free_intro (c : Dev nD) (b : Buf4) (i : Fin 4) (X : Chunk F) : has c b i X ⊢ free (F := F) c b i := by
  unfold free; iintro H; iexists X; iexact H

omit [FloatOps F] in
theorem free_slots (c : Dev nD) (b : Buf4) (X : S4x512x256.Idx → Elt F .bf16) :
    (owns (c : Thread nD τ) b fullShare X : sProp 𝕄) ⊢ bigSep Finset.univ fun i => free (F := F) c b i :=
  (split_slots c b X).trans (bigSep_mono fun i _ => free_intro c b i _)

/-! ## The handshake -/

variable (K : Dev nD × Cl → ℕ)

theorem sig_step (c d : Dev nD) (b : Bool) (hd : d = side b c) (O : CellTallies nD τ sig Unit) (k : ℙ F) (Q : PUnit.{1} → sProp 𝕄) :
    iprop(known m ρ K ∗ debt (F := F) c (O + tallyAt (barCell (side b c)) () 1) ∗ dutyTok ER (barCell (side b c)) 0 b
        ∗ bigSep (Finset.univ.filter fun j : Chan => way j = b) fun j => landing (F := F) c j)
      ⊢ iprop((debt (F := F) c O -∗ runs c k Q) -∗ runs c (sigP d k) Q) := by
  subst hd
  unfold debt sigP
  iintro ⟨#HK, ⟨%W, HO⟩, Ht, Hl⟩ Hk
  iapply (Rounds.wp_signal 𝒱₀ ER (Rd m ρ) (c : Thread nD τ) none (dst := (side b c : Thread nD τ)) (κ := K (side b c, .inl ()))
      (d := b) (by rw [duties_bar]; exact Finset.mem_univ _) ((amount_bar m ρ (side b c) b).trans (by decide)) () O rfl)
    $$ [HO Ht Hl]
  · isplitr; · iapply (known_inv m ρ K (side b c, .inl ())); iexact HK
    isplitl [HO]; · iexact HO
    isplitl [Ht]; · iexact Ht
    isplitl [Hl]; · rw [payload_bar]; unfold barPay; rw [side_side]; iexact Hl
    iapply (known_reached m ρ K (side b c, .inl ())); iexact HK
  iintro HO
  iapply Hk
  iexists W; iexact HO

theorem bar_step (c : Dev nD) (l : List Chan) (k : ℙ F) (Q : PUnit.{1} → sProp 𝕄) :
    iprop(known m ρ K ∗ debt (F := F) c (toSend l c) ∗ cred (tallyAt (barCell c) () 2) ∗ atPos ER (barCell c) 0 ∅ 0)
      ⊢ iprop(((debt (F := F) c (toSend l c) ∗ semVal (barCell c) 0 ∗ bigSep Finset.univ fun j : Chan => landing (F := F) (peer j c) j) -∗ runs c k Q)
          -∗ runs c (barP k) Q) := by
  unfold debt barP
  iintro ⟨#HK, ⟨%W, HO⟩, Hc, Ha⟩ Hk
  iapply (Rounds.wp_wait_rest_token 𝒱₀ ER (Rd m ρ) (c : Thread nD τ) none (κ := K (c, .inl ()))
      (wpE_semWait_eq 𝒱₀ (c : Thread nD τ) none Set.univ) (Set.mem_univ _) () (O := toSend l c) (W := W) (R := 0) (m := 0) (T := ∅)
      (by rw [expect_bar]; decide)) $$ [Hc HO Ha]
  · isplitr; · iapply (known_inv m ρ K (c, .inl ())); iexact HK
    isplitl [Hc]; · iexact Hc
    isplitl [HO]; · iexact HO
    isplitr
    · iapply (mayWait_toSend c _ l (fun j' _ => by rw [lv_bar]; omega)); iapply (known_levels m ρ K); iexact HK
    iexact Ha
  iintro ⟨HO, Ha, -, Hpay⟩
  ihave Hp := (Entails.of_eq (rest_bar m ρ c)) $$ Hpay
  imod (Rounds.cell_close ER (Rd m ρ) (Set.mem_univ (K (c, .inl ()))) (fun h => h) (R := 0 + 1) (duties_later m ρ (barCell c))) $$ [Ha] with Hz
  · isplitr; · iapply (known_inv m ρ K (c, .inl ())); iexact HK
    iexact Ha
  iapply Hk
  isplitl [HO]; · iexists _; iexact HO
  isplitl [Hz] <;> iassumption

/-! ## The body -/

abbrev at' (c : Dev nD) (b : Ref sig .tc) (X : b.ty.Contents (Elt F)) : sProp 𝕄 := iprop(((c : Thread nD τ).loc b) ↦{fullShare} X)

def bodyPre (c : Dev nD) : sProp 𝕄 :=
  iprop(known m ρ K ∗ cred (tallyAt (barCell c) () 2) ∗ atPos ER (barCell c) 0 ∅ 0
    ∗ dutyTok ER (barCell (side true c)) 0 true ∗ dutyTok ER (barCell (side false c)) 0 false
    ∗ (bigSep Finset.univ fun j : Chan => idle (F := F) c j)
    ∗ (bigSep Finset.univ fun j : Chan => landing (F := F) c j)
    ∗ (bigSep Finset.univ fun j : Chan => free (F := F) c (sendB j.1) j.2)
    ∗ (bigSep Finset.univ fun i : Fin 4 => free (F := F) c oM i)
    ∗ debt (F := F) c (O₀ c)
    ∗ (bigSep Finset.univ fun i : Fin 4 => has c xM i (xChunk m ρ c i))
    ∗ at' c cc0_stg1_0 (kstg m ρ c) ∗ at' c cc0_stg2_0 (wstg m ρ c))

def bodyPost (c : Dev nD) : sProp 𝕄 :=
  iprop((bigSep Finset.univ fun j : Chan => closed2 m ρ c j) ∗ semVal (barCell c) 0 ∗ debt (F := F) c 0
    ∗ (bigSep Finset.univ fun i : Fin 4 => has c oM i (outC m ρ c i))
    ∗ (bigSep Finset.univ fun i : Fin 4 => has c xM i (xChunk m ρ c i))
    ∗ at' c cc0_stg1_0 (kstg m ρ c) ∗ at' c cc0_stg2_0 (wstg m ρ c))

omit [FloatOps F] in
theorem hz2 : (![0, 0] : Fin 2 → Nat) = fun _ => 0 := funext fun a => by fin_cases a <;> rfl

omit [FloatOps F] in
/-- A conjunction over the channels, in the order of the copies. -/
theorem chans (Φ : Chan → sProp 𝕄) : bigSep Finset.univ Φ
    = iprop(Φ (0, 0) ∗ Φ (0, 2) ∗ Φ (0, 1) ∗ Φ (0, 3) ∗ Φ (1, 0) ∗ Φ (1, 2) ∗ Φ (1, 1) ∗ Φ (1, 3)) :=
  bigSep_univ_eq_bigSepL order (by decide) (by decide) Φ
omit [FloatOps F] in
/-- A conjunction over the chunks, in the order in which they are computed. -/
theorem chunks (Φ : Fin 4 → sProp 𝕄) : bigSep Finset.univ Φ = iprop(Φ 0 ∗ Φ 2 ∗ Φ 1 ∗ Φ 3) :=
  bigSep_univ_eq_bigSepL [(0 : Fin 4), 2, 1, 3] (by decide) (by decide) Φ

omit [FloatOps F] in
/-- A conjunction over the channels, by partner. -/
theorem ways (Φ : Chan → sProp 𝕄) : bigSep Finset.univ Φ
    = iprop((bigSep (Finset.univ.filter fun j : Chan => way j = true) Φ) ∗ (bigSep (Finset.univ.filter fun j : Chan => way j = false) Φ)) := by
  rw [bigSep_filter_split Finset.univ (fun j : Chan => way j = true)]
  simp only [Bool.not_eq_true]
  rfl

set_option maxHeartbeats 1600000 in
theorem sound_body (c : Dev nD) (Q : PUnit.{1} → sProp 𝕄) :
    iprop(bodyPre m ρ K c ∗ (bodyPost m ρ c -∗ Q ⟨⟩)) ⊢ runs c bodyP Q := by
  unfold bodyP tailP readsP runs
  rw [wp_deviceId]
  unfold bodyPre
  rw [ways fun j => landing (F := F) c j]
  iintro ⟨⟨#HK, HcB, HaB, HtT, HtF, Hidle, ⟨HlT, HlF⟩, Hsend, Hout, HO, Hx, Hkk, Hww⟩, Hk⟩
  unfold O₀
  iapply (sig_step m ρ K c _ true (dev1_eq c) (O₁ c) _ Q) $$ [HO HtT HlT]
  · isplitr; · iexact HK
    isplitl [HO]; · iexact HO
    isplitl [HtT] <;> iassumption
  iintro HO
  unfold O₁
  iapply (sig_step m ρ K c _ false (dev2_eq c) (toSend order c) _ Q) $$ [HO HtF HlF]
  · isplitr; · iexact HK
    isplitl [HO]; · iexact HO
    isplitl [HtF] <;> iassumption
  iintro HO
  iapply (wp_load 𝒱₀ (c : Thread nD τ) none Set.univ (m := kM) (Finset.subset_univ _)) $$ Hkk; iintro Hkk
  rw [show kM.view.readAt (Elt F) kR.toLoadRect (kstg m ρ c) = kstg m ρ c from Memref.readAt_unit_zero (Elt F) cc0_stg1_0 hz2 _ _]
  iapply (wp_load 𝒱₀ (c : Thread nD τ) none Set.univ (m := wM) (Finset.subset_univ _)) $$ Hww; iintro Hww
  rw [show wM.view.readAt (Elt F) wR.toLoadRect (wstg m ρ c) = wstg m ρ c from Memref.readAt_unit_zero (Elt F) cc0_stg2_0 hz2 _ _]
  ihave Hidle := (Entails.of_eq (chans fun j => idle (F := F) c j)) $$ Hidle
  icases Hidle with ⟨Hi00, Hi02, Hi01, Hi03, Hi10, Hi12, Hi11, Hi13⟩
  ihave Hsend := (Entails.of_eq (chans fun j => free (F := F) c (sendB j.1) j.2)) $$ Hsend
  icases Hsend with ⟨Hs00, Hs02, Hs01, Hs03, Hs10, Hs12, Hs11, Hs13⟩
  ihave Hout := (Entails.of_eq (chunks fun i => free (F := F) c oM i)) $$ Hout
  icases Hout with ⟨Ho0, Ho2, Ho1, Ho3⟩
  ihave Hx := (Entails.of_eq (chunks fun i => has c xM i (xChunk m ρ c i))) $$ Hx
  icases Hx with ⟨Hx0, Hx2, Hx1, Hx3⟩
  -- chunk 0, then the handshake's other half
  iapply (compute_step m ρ c 0 _ Q) $$ [Hx0 Hs00]
  · isplitl [Hx0] <;> iassumption
  iintro ⟨Hx0, Hs00⟩
  iapply (bar_step m ρ K c order _ Q) $$ [HO HcB HaB]
  · isplitr; · iexact HK
    isplitl [HO]; · iexact HO
    isplitl [HcB] <;> iassumption
  iintro ⟨HO, HzB, Hland⟩
  ihave Hland := (Entails.of_eq (chans fun j => landing (F := F) (peer j c) j)) $$ Hland
  icases Hland with ⟨Hl00, Hl02, Hl01, Hl03, Hl10, Hl12, Hl11, Hl13⟩
  -- phase 0
  iapply (send_step m ρ K (0, 0) c _ (dev3_eq c) _ _ Q) $$ [Hi00 Hl00 Hs00 HO]
  · isplitr; · iexact HK
    isplitl [Hi00]; · iexact Hi00
    isplitl [Hl00]; · iexact Hl00
    isplitl [Hs00] <;> iassumption
  iintro ⟨Hf00, HO⟩
  iapply (compute_step m ρ c 2 _ Q) $$ [Hx2 Hs02]
  · isplitl [Hx2] <;> iassumption
  iintro ⟨Hx2, Hs02⟩
  iapply (send_step m ρ K (0, 2) c _ (dev4_eq c) _ _ Q) $$ [Hi02 Hl02 Hs02 HO]
  · isplitr; · iexact HK
    isplitl [Hi02]; · iexact Hi02
    isplitl [Hl02]; · iexact Hl02
    isplitl [Hs02] <;> iassumption
  iintro ⟨Hf02, HO⟩
  iapply (compute_step m ρ c 1 _ Q) $$ [Hx1 Hs01]
  · isplitl [Hx1] <;> iassumption
  iintro ⟨Hx1, Hs01⟩
  iapply (send_step m ρ K (0, 1) c _ (dev5_eq c) _ _ Q) $$ [Hi01 Hl01 Hs01 HO]
  · isplitr; · iexact HK
    isplitl [Hi01]; · iexact Hi01
    isplitl [Hl01]; · iexact Hl01
    isplitl [Hs01] <;> iassumption
  iintro ⟨Hf01, HO⟩
  iapply (compute_step m ρ c 3 _ Q) $$ [Hx3 Hs03]
  · isplitl [Hx3] <;> iassumption
  iintro ⟨Hx3, Hs03⟩
  iapply (send_step m ρ K (0, 3) c _ (dev6_eq c) _ _ Q) $$ [Hi03 Hl03 Hs03 HO]
  · isplitr; · iexact HK
    isplitl [Hi03]; · iexact Hi03
    isplitl [Hl03]; · iexact Hl03
    isplitl [Hs03] <;> iassumption
  iintro ⟨Hf03, HO⟩
  -- on through phase 1
  iapply (mid_step m ρ K c _ 0 (dev7_eq c) [(1, 2), (1, 1), (1, 3)] (by decide) _ Q) $$ [Hf00 Hi10 Hs10 Hl10 HO]
  · isplitr; · iexact HK
    isplitl [Hf00]; · iexact Hf00
    isplitl [Hi10]; · iexact Hi10
    isplitl [Hs10]; · iexact Hs10
    isplitl [Hl10] <;> iassumption
  iintro ⟨Hd00, Hf10, HO⟩
  iapply (mid_step m ρ K c _ 2 (dev8_eq c) [(1, 1), (1, 3)] (by decide) _ Q) $$ [Hf02 Hi12 Hs12 Hl12 HO]
  · isplitr; · iexact HK
    isplitl [Hf02]; · iexact Hf02
    isplitl [Hi12]; · iexact Hi12
    isplitl [Hs12]; · iexact Hs12
    isplitl [Hl12] <;> iassumption
  iintro ⟨Hd02, Hf12, HO⟩
  iapply (mid_step m ρ K c _ 1 (dev9_eq c) [(1, 3)] (by decide) _ Q) $$ [Hf01 Hi11 Hs11 Hl11 HO]
  · isplitr; · iexact HK
    isplitl [Hf01]; · iexact Hf01
    isplitl [Hi11]; · iexact Hi11
    isplitl [Hs11]; · iexact Hs11
    isplitl [Hl11] <;> iassumption
  iintro ⟨Hd01, Hf11, HO⟩
  iapply (mid_step m ρ K c _ 3 (dev10_eq c) [] (by decide) _ Q) $$ [Hf03 Hi13 Hs13 Hl13 HO]
  · isplitr; · iexact HK
    isplitl [Hf03]; · iexact Hf03
    isplitl [Hi13]; · iexact Hi13
    isplitl [Hs13]; · iexact Hs13
    isplitl [Hl13] <;> iassumption
  iintro ⟨Hd03, Hf13, HO⟩
  -- and out
  iapply (fin_step m ρ K c 0 _ Q) $$ [Hf10 Ho0 HO]
  · isplitr; · iexact HK
    isplitl [Hf10]; · iexact Hf10
    isplitl [Ho0] <;> iassumption
  iintro ⟨Hd10, Ho0, HO⟩
  iapply (fin_step m ρ K c 2 _ Q) $$ [Hf12 Ho2 HO]
  · isplitr; · iexact HK
    isplitl [Hf12]; · iexact Hf12
    isplitl [Ho2] <;> iassumption
  iintro ⟨Hd12, Ho2, HO⟩
  iapply (fin_step m ρ K c 1 _ Q) $$ [Hf11 Ho1 HO]
  · isplitr; · iexact HK
    isplitl [Hf11]; · iexact Hf11
    isplitl [Ho1] <;> iassumption
  iintro ⟨Hd11, Ho1, HO⟩
  iapply (fin_step m ρ K c 3 _ Q) $$ [Hf13 Ho3 HO]
  · isplitr; · iexact HK
    isplitl [Hf13]; · iexact Hf13
    isplitl [Ho3] <;> iassumption
  iintro ⟨Hd13, Ho3, HO⟩
  unfold runs
  rw [wp_ret]; imodintro
  iapply Hk
  unfold bodyPost
  rw [chans, chunks, chunks]
  isplitl [Hd00 Hd02 Hd01 Hd03 Hd10 Hd12 Hd11 Hd13]
  · isplitl [Hd00]; · iexact Hd00
    isplitl [Hd02]; · iexact Hd02
    isplitl [Hd01]; · iexact Hd01
    isplitl [Hd03]; · iexact Hd03
    isplitl [Hd10]; · iexact Hd10
    isplitl [Hd12]; · iexact Hd12
    isplitl [Hd11] <;> iassumption
  isplitl [HzB]; · iexact HzB
  isplitl [HO]; · iexact HO
  isplitl [Ho0 Ho2 Ho1 Ho3]
  · isplitl [Ho0]; · iexact Ho0
    isplitl [Ho2]; · iexact Ho2
    isplitl [Ho1] <;> iassumption
  isplitl [Hx0 Hx2 Hx1 Hx3]
  · isplitl [Hx0]; · iexact Hx0
    isplitl [Hx2]; · iexact Hx2
    isplitl [Hx1] <;> iassumption
  isplitl [Hkk] <;> iassumption

end Cert.KProof

end
-- ==== Proof.Obligation.lean ====
/-
What a device holds when the kernel's body starts and when it ends, and that the body leads from the one to the other.
-/
module

public import proofs.«01_k».proof.Proof.Body
public import Idealize.ShloMosaic.Lib.Pipeline.FrameBody

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Before and after -/

/-- Every cell's invariant and that its first round is open. -/
def records (K : Dev nD × Cl → ℕ) : sProp 𝕄 :=
  iprop((bigSep Finset.univ fun ck => invAt m ρ K ck) ∗ (bigSep Finset.univ fun ck : Dev nD × Cl => reached ER (kcell ck) 0))

instance records_persistent (K : Dev nD × Cl → ℕ) : BI.Persistent (records m ρ K) := by unfold records; infer_instance

/-- A device's positions on a channel and the tokens it pays there. -/
def pos (c : Dev nD) (j : Chan) : sProp 𝕄 :=
  iprop(atPos ER (sendCell c j) 0 ∅ 0 ∗ atPos ER (recvCell c j) 0 ∅ 0 ∗ dutyTok ER (sendCell c j) 0 false ∗ dutyTok ER (recvCell (peer j c) j) 0 false)
/-- The same of the whole exchange. -/
def linear (c : Dev nD) : sProp 𝕄 :=
  iprop(atPos ER (barCell c) 0 ∅ 0 ∗ dutyTok ER (barCell (side true c)) 0 true ∗ dutyTok ER (barCell (side false c)) 0 false
    ∗ bigSep Finset.univ fun j : Chan => pos (F := F) c j)

def G' (c : Dev nD) : sProp 𝕄 := iprop(∃ K, records m ρ K ∗ linear (F := F) c)
/-- The credits of a device's own cells. -/
def credits (c : Dev nD) : sProp 𝕄 := iprop(cred (tallyAt (barCell c) () 2) ∗ bigSep Finset.univ fun j : Chan => cred (tallyAt (recvCell c j) () N))
def start (c : Dev nD) : sProp 𝕄 := iprop(G' m ρ c ∗ credits (F := F) c ∗ levAts L lv)

abbrev scratch (c : Dev nD) : sProp 𝕄 := Pipeline.scopedRest (Ix := Unit) (Name := ℕ) (U := UU) (Lvl := ℕ) (Val := Elt F) cfg0.spec c
abbrev zeros (c : Dev nD) : sProp 𝕄 :=
  iprop(unscopedSems0 c ∗ Pipeline.ownSems0 (Ix := Unit) (Name := ℕ) (U := UU) (Lvl := ℕ) (Val := Elt F) (τ := τ) osem c)

def Φ₀ (c : Dev nD) : sProp 𝕄 := iprop(start m ρ c ∗ scratch (F := F) c)
def Φ₁ (c : Dev nD) : sProp 𝕄 := iprop(unscopedSems0 c ∗ Pipeline.ownSems0 (Ix := Unit) (Name := ℕ) (U := UU) (Lvl := ℕ) (Val := Elt F) (τ := τ) osem c ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => kstg m ρ c
    | ⟨2, _⟩ => wstg m ρ c
    | ⟨3, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

def t₀ : Fin cfg0.N := t0_0

/-! ## Pieces -/

omit [FloatOps F] in
theorem fin2 (Φ : Fin 2 → sProp 𝕄) : bigSep Finset.univ Φ = iprop(Φ 0 ∗ Φ 1) := bigSep_univ_eq_bigSepL [0, 1] (by decide) (by decide) Φ

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun j : Chan => semVal (sendCell c j) 0) ∗ bigSep Finset.univ fun j : Chan => semVal (recvCell c j) 0) := by
  unfold Pipeline.ownSems0; rw [bigSep_univ_sum]; rfl

omit [FloatOps F] in
/-- The scratch buffers are the slots of every channel. -/
theorem scratch_split (c : Dev nD) : scratch (F := F) c
    ⊢ iprop((bigSep Finset.univ fun j : Chan => free (F := F) c (sendB j.1) j.2) ∗ bigSep Finset.univ fun j : Chan => landing (F := F) c j) := by
  unfold scratch
  rw [scopedRest0_eq, bigSep_univ_prod, bigSep_univ_prod, fin2, fin2]
  iintro ⟨⟨%f0, H0⟩, ⟨%f1, H1⟩, ⟨%f2, H2⟩, ⟨%f3, H3⟩⟩
  isplitl [H0 H2]
  · isplitl [H0]
    · iapply ((Entails.of_eq (owns_whole (c : Thread nD τ) cc0_scratch0 fullShare f0).symm).trans (free_slots c (sendB 0) f0)); iexact H0
    · iapply ((Entails.of_eq (owns_whole (c : Thread nD τ) cc0_scratch2 fullShare f2).symm).trans (free_slots c (sendB 1) f2)); iexact H2
  · isplitl [H1]
    · iapply ((Entails.of_eq (owns_whole (c : Thread nD τ) cc0_scratch1 fullShare f1).symm).trans (free_slots c (landB 0) f1)); iexact H1
    · iapply ((Entails.of_eq (owns_whole (c : Thread nD τ) cc0_scratch3 fullShare f3).symm).trans (free_slots c (landB 1) f3)); iexact H3

theorem scratch_join (c : Dev nD) (Y Z : Chan → Chunk F) :
    iprop((bigSep Finset.univ fun j : Chan => has c (sendB j.1) j.2 (Y j)) ∗ bigSep Finset.univ fun j : Chan => has c (landB j.1) j.2 (Z j))
      ⊢ scratch (F := F) c := by
  unfold scratch
  rw [scopedRest0_eq, bigSep_univ_prod, bigSep_univ_prod, fin2, fin2]
  iintro ⟨⟨H0, H2⟩, H1, H3⟩
  isplitl [H0]
  · iexists glue fun i => Y (0, i)
    iapply ((join_slots c (sendB 0) fun i => Y (0, i)).trans (Entails.of_eq (owns_whole (c : Thread nD τ) cc0_scratch0 fullShare _))); iexact H0
  isplitl [H1]
  · iexists glue fun i => Z (0, i)
    iapply ((join_slots c (landB 0) fun i => Z (0, i)).trans (Entails.of_eq (owns_whole (c : Thread nD τ) cc0_scratch1 fullShare _))); iexact H1
  isplitl [H2]
  · iexists glue fun i => Y (1, i)
    iapply ((join_slots c (sendB 1) fun i => Y (1, i)).trans (Entails.of_eq (owns_whole (c : Thread nD τ) cc0_scratch2 fullShare _))); iexact H2
  · iexists glue fun i => Z (1, i)
    iapply ((join_slots c (landB 1) fun i => Z (1, i)).trans (Entails.of_eq (owns_whole (c : Thread nD τ) cc0_scratch3 fullShare _))); iexact H3

theorem done_split (c : Dev nD) : (bigSep Finset.univ fun j : Chan => closed2 m ρ c j)
    ⊢ iprop(scratch (F := F) c ∗ Pipeline.ownSems0 (Ix := Unit) (Name := ℕ) (U := UU) (Lvl := ℕ) (Val := Elt F) (τ := τ) osem c) := by
  rw [ownSems0_eq]
  unfold closed2
  rw [bigSep_sep', bigSep_sep', bigSep_sep']
  iintro ⟨HS, HR, HzS, HzR⟩
  isplitl [HS HR]
  · iapply (scratch_join c (fun j => sent m ρ j c) fun j => sent m ρ j (peer j c))
    isplitl [HS] <;> iassumption
  · isplitl [HzS] <;> iassumption

omit [FloatOps F] in
theorem idle_intro (c : Dev nD) : iprop((bigSep Finset.univ fun j : Chan => pos (F := F) c j) ∗ bigSep Finset.univ fun j : Chan => cred (tallyAt (recvCell c j) () N))
    ⊢ bigSep Finset.univ fun j : Chan => idle (F := F) c j := by
  rw [← bigSep_sep']
  refine bigSep_mono fun j _ => show iprop(pos (F := F) c j ∗ cred (tallyAt (recvCell c j) () N)) ⊢ idle (F := F) c j from ?_
  unfold pos idle
  iintro ⟨⟨H1, H2, H3, H4⟩, H5⟩
  isplitl [H1]; · iexact H1
  isplitl [H2]; · iexact H2
  isplitl [H3]; · iexact H3
  isplitl [H4] <;> iassumption

/-! ## The obligation -/

abbrev stgs (c : Dev nD) (X : (cc0_stg0_0 : Ref sig .tc).ty.Contents (Elt F)) (Y : (cc0_stg1_0 : Ref sig .tc).ty.Contents (Elt F))
    (Z : (cc0_stg2_0 : Ref sig .tc).ty.Contents (Elt F)) (O : (cc0_stg3_0 : Ref sig .tc).ty.Contents (Elt F)) : sProp 𝕄 :=
  iprop(owns (c : Thread nD τ) xM fullShare X ∗ owns (c : Thread nD τ) kM fullShare Y ∗ owns (c : Thread nD τ) wM fullShare Z ∗ owns (c : Thread nD τ) oM fullShare O)

theorem obligation_run (c : Dev nD) (O : (cc0_stg3_0 : Ref sig .tc).ty.Contents (Elt F)) (Q : PUnit.{1} → sProp 𝕄) :
    iprop(Φ₀ m ρ c ∗ debt (F := F) c (O₀ c) ∗ stgs c (xstg m ρ c) (kstg m ρ c) (wstg m ρ c) O
        ∗ ((Φ₁ (F := F) c ∗ debt (F := F) c 0 ∗ stgs c (xstg m ρ c) (kstg m ρ c) (wstg m ρ c) (outAt m ρ c)) -∗ Q ⟨⟩))
      ⊢ runs c bodyP Q := by
  unfold Φ₀ start G' records credits linear stgs
  rw [owns_whole (c : Thread nD τ) cc0_stg1_0, owns_whole (c : Thread nD τ) cc0_stg2_0]
  iintro ⟨⟨⟨⟨%K, ⟨#HI, #HR⟩, HaB, HtT, HtF, Hpos⟩, ⟨HcB, Hcr⟩, #Hlev⟩, Hscr⟩, HO, ⟨Hx, Hk, Hw, Ho⟩, Hq⟩
  ihave Hs := (scratch_split (F := F) c) $$ Hscr
  icases Hs with ⟨Hsend, Hland⟩
  ihave Hi := (idle_intro (F := F) c) $$ [Hpos Hcr]
  · isplitl [Hpos] <;> iassumption
  ihave Hx' := (split_slots c xM (xstg m ρ c)) $$ Hx
  ihave Ho' := (free_slots c oM O) $$ Ho
  iapply (sound_body m ρ K c Q)
  unfold bodyPre known bodyPost
  isplitr [Hq]
  · isplitr
    · isplitr; · iexact HI
      isplitr; · iexact HR
      iexact Hlev
    isplitl [HcB]; · iexact HcB
    isplitl [HaB]; · iexact HaB
    isplitl [HtT]; · iexact HtT
    isplitl [HtF]; · iexact HtF
    isplitl [Hi]; · iexact Hi
    isplitl [Hland]; · iexact Hland
    isplitl [Hsend]; · iexact Hsend
    isplitl [Ho']; · iexact Ho'
    isplitl [HO]; · iexact HO
    isplitl [Hx']; · iexact Hx'
    isplitl [Hk] <;> iassumption
  iintro ⟨Hd, HzB, HO, Ho, Hx, Hk, Hw⟩
  ihave Hd' := (done_split m ρ c) $$ Hd
  icases Hd' with ⟨Hscr, Hz⟩
  ihave Hx' := (join_slots c xM (xChunk m ρ c)) $$ Hx
  ihave Ho' := (join_slots c oM (outC m ρ c)) $$ Ho
  iapply Hq
  unfold Φ₁
  rw [unscopedSems0_eq, show glue (xChunk m ρ c) = xstg m ρ c from funext fun p => by unfold glue xChunk; rw [slot_emb_inSlot]]
  isplitl [HzB Hz Hscr]
  · isplitl [HzB]; · iexact HzB
    isplitl [Hz] <;> iassumption
  isplitl [HO]; · iexact HO
  isplitl [Hx']; · iexact Hx'
  isplitl [Hk]; · iexact Hk
  isplitl [Hw]; · iexact Hw
  iexact Ho'

theorem owesAt_iff (c : Dev nD) (t : Fin (cfg0.N + 1)) (O : CellTallies nD τ sig Unit) (h : (dats m ρ 0 c).owed t = O) :
    (dats m ρ 0 c).owesAt () t = debt (F := F) c O := by
  unfold Dat.owesAt Pipeline.owesWithin debt
  rw [h]
  have h₁ : iprop(∃ W : Waits sig Unit, ⌜(W : Set (SemLoc sig × Unit)) ⊆ (dats m ρ 0 c).bound () t⌝ ∗ owes (c : Thread nD τ) O W)
      ⊢ (iprop(∃ W, owes (c : Thread nD τ) O W) : sProp 𝕄) := by
    iintro ⟨%W, -, H⟩; iexists W; iexact H
  have h₂ : (iprop(∃ W, owes (c : Thread nD τ) O W) : sProp 𝕄)
      ⊢ iprop(∃ W : Waits sig Unit, ⌜(W : Set (SemLoc sig × Unit)) ⊆ (dats m ρ 0 c).bound () t⌝ ∗ owes (c : Thread nD τ) O W) := by
    iintro ⟨%W, H⟩; iexists W
    isplitr; · ipureintro; exact fun _ _ => Or.inl trivial
    iexact H
  exact BI.equiv_iff.mp ⟨h₁, h₂⟩

def pre' (c : Dev nD) : sProp 𝕄 :=
  iprop(Φ₀ m ρ c ∗ (dats m ρ 0 c).owesAt () t₀.castSucc
    ∗ (∃ d, owns (c : Thread nD τ) xM fullShare ((dats m ρ 0 c).before (0 : Fin 4) t₀ d))
    ∗ (∃ d, owns (c : Thread nD τ) kM fullShare ((dats m ρ 0 c).before (1 : Fin 4) t₀ d))
    ∗ (∃ d, owns (c : Thread nD τ) wM fullShare ((dats m ρ 0 c).before (2 : Fin 4) t₀ d))
    ∗ (∃ d, owns (c : Thread nD τ) oM fullShare ((dats m ρ 0 c).before (3 : Fin 4) t₀ d)))
def post' (c : Dev nD) : sProp 𝕄 :=
  iprop(Φ₁ (F := F) c ∗ (dats m ρ 0 c).owesAt () t₀.succ ∗ stgs c (xstg m ρ c) (kstg m ρ c) (wstg m ρ c) (outAt m ρ c))

set_option maxRecDepth 4000 in
theorem body_obligation (c : Dev nD) : BodyObligation (dats (F := F) m ρ 0 c) (defs₀ (F := F)) 𝒱₀ () Set.univ := fun t => by
  rw [show t = t₀ from fin_N0 t]
  rw [show ∀ Φ : Fin cfg0.W → sProp 𝕄, bigSep Finset.univ Φ = iprop(Φ (0 : Fin 4) ∗ Φ (1 : Fin 4) ∗ Φ (2 : Fin 4) ∗ Φ (3 : Fin 4)) from bigSep_W0,
    show ∀ Φ : Fin cfg0.W → sProp 𝕄, bigSep Finset.univ Φ = iprop(Φ (0 : Fin 4) ∗ Φ (1 : Fin 4) ∗ Φ (2 : Fin 4) ∗ Φ (3 : Fin 4)) from bigSep_W0]
  show pre' m ρ c ⊢ runs c (cc0_body xM (Memref.isWhole_whole _) kM (Memref.isWhole_whole _) wM (Memref.isWhole_whole _) oM (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _) cc0_scratch4 cc0_scratch5) (fun _ => post' m ρ c)
  rw [body_eq]
  unfold pre'
  have fetched : ∀ w : Fin 4, (cfg0.win w).fetch t₀ = true → ∀ d, (dats m ρ 0 c).before w t₀ d = (dats m ρ 0 c).fetched w t₀ d :=
    fun w h d => by unfold Dat.before; rw [if_pos h]
  rw [owesAt_iff m ρ c _ (O₀ c) rfl]
  iintro ⟨HΦ, HO, ⟨%d0, Hx⟩, ⟨%d1, Hk⟩, ⟨%d2, Hw⟩, ⟨%d3, Ho⟩⟩
  iapply (obligation_run m ρ c ((dats m ρ 0 c).before (3 : Fin 4) t₀ d3) fun _ => post' m ρ c)
  unfold stgs
  isplitl [HΦ]; · iexact HΦ
  isplitl [HO]; · iexact HO
  isplitl [Hx Hk Hw Ho]
  · isplitl [Hx]; · rw [fetched 0 (fetch0_0 t₀) d0]; iexact Hx
    isplitl [Hk]; · rw [fetched 1 (fetch0_1 t₀) d1]; iexact Hk
    isplitl [Hw]; · rw [fetched 2 (fetch0_2 t₀) d2]; iexact Hw
    iexact Ho
  · unfold post'
    rw [owesAt_iff m ρ c _ 0 rfl]
    iintro H; iexact H

end Cert.KProof

end
-- ==== Proof.Launch.lean ====
/-
The launch: the tokens dealt to the devices that pay with them, the credits, and the run of the whole program.
-/
module

public import proofs.«01_k».proof.Proof.Obligation
public import Idealize.ShloMosaic.Lib.Pipeline.CollectiveSegs

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide
theorem share_eq (c : Dev nD) (w : Fin cfg0.W) : (dats m ρ 0 c).share w = fullShare := by unfold Dat.share; split <;> rfl

/-! ## The tokens -/

def cells : Finset (GSem nD τ sig) := Finset.univ.map ⟨kcell, kcell_injective⟩

/-- The duties of a device's cells: two of the barrier, one of each other. -/
abbrev Duty : Type := Bool ⊕ (Chan ⊕ Chan)
abbrev dutyOf (ct : Dev nD × Duty) : GSem nD τ sig × ℕ × Bool := match ct.2 with
  | .inl b => (barCell ct.1, 0, b)
  | .inr o => (kcell (ct.1, .inr o), 0, false)
theorem dutyOf_injective : Function.Injective dutyOf := by
  rintro ⟨c, b | o⟩ ⟨c', b' | o'⟩ h
  · have hc : (c, (Sum.inl () : Cl)) = (c', .inl ()) := kcell_injective (congrArg Prod.fst h)
    have hb : b = b' := congrArg (fun x => x.2.2) h
    rw [hb, show c = c' from congrArg Prod.fst hc]
  · have hc : (c, (Sum.inl () : Cl)) = (c', .inr o') := kcell_injective (congrArg Prod.fst h)
    exact absurd (congrArg Prod.snd hc) (by simp)
  · have hc : (c, (Sum.inr o : Cl)) = (c', .inl ()) := kcell_injective (congrArg Prod.fst h)
    exact absurd (congrArg Prod.snd hc) (by simp)
  · have hc : (c, (Sum.inr o : Cl)) = (c', .inr o') := kcell_injective (congrArg Prod.fst h)
    rw [show c = c' from congrArg Prod.fst hc, show o = o' from Sum.inr.inj (congrArg Prod.snd hc)]
def duties : Finset (GSem nD τ sig × ℕ × Bool) := Finset.univ.map ⟨dutyOf, dutyOf_injective⟩

def u₀ : UU := (initOf (Pipeline.cells cfgs cellOf_inj) (Pipeline.launchToks cfgs cellOf_inj), initOf cells duties)

/-- The tokens of a device's own cells. -/
def ownToks (c : Dev nD) : sProp 𝕄 := bigSep Finset.univ fun t : Duty => dutyTok ER (dutyOf (c, t)).1 (dutyOf (c, t)).2.1 (dutyOf (c, t)).2.2
def ownPos (c : Dev nD) : sProp 𝕄 := bigSep Finset.univ fun o : Cl => atPos ER (kcell (c, o)) 0 ∅ 0
def ownReached (c : Dev nD) : sProp 𝕄 := bigSep Finset.univ fun o : Cl => reached ER (kcell (c, o)) 0
def G (c : Dev nD) : sProp 𝕄 :=
  iprop((bigSep Finset.univ fun o : Cl => roundState ER (Rd m ρ) (kcell (c, o)) 0) ∗ ownPos (F := F) c ∗ ownReached (F := F) c ∗ ownToks (F := F) c)

theorem fund_cells : BI.own (ER (initOf cells duties)) ⊢ (|==> bigSep Finset.univ (G m ρ) : sProp 𝕄) := by
  have hX (Φ : GSem nD τ sig → sProp 𝕄) : bigSep cells Φ = bigSep Finset.univ fun c : Dev nD => bigSep Finset.univ fun o : Cl => Φ (kcell (c, o)) := by
    unfold cells; rw [bigSep_map, bigSep_univ_prod]; rfl
  have hT : bigSep duties (fun x => (dutyTok ER x.1 x.2.1 x.2.2 : sProp 𝕄)) = bigSep Finset.univ fun c : Dev nD => ownToks (F := F) c := by
    unfold duties ownToks; rw [bigSep_map, bigSep_univ_prod]; rfl
  iintro HX
  imod (Rounds.fund ER (Rd m ρ) cells duties) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G ownPos ownReached; simp only [bigSep_sep']
  isplitl [Hst']; · iexact Hst'
  isplitl [Hat']; · iexact Hat'
  isplitl [Hr'] <;> iassumption

omit [FloatOps F] in
/-- Over a device's cells: the barrier's, the send cells', the receive cells'. -/
theorem clls (Φ : Cl → sProp 𝕄) : bigSep Finset.univ Φ
    = iprop(Φ (.inl ()) ∗ (bigSep Finset.univ fun j => Φ (.inr (.inl j))) ∗ bigSep Finset.univ fun j => Φ (.inr (.inr j))) := by
  rw [bigSep_univ_sum, bigSep_univ_sum, bigSep_univ_eq_bigSepL [()] (by decide) (by decide)]; rfl

omit [FloatOps F] in
theorem sems0_eq (c : Dev nD) : zeros (F := F) c ⊢ bigSep Finset.univ fun o : Cl => semVal (kcell (c, o)) 0 := by
  unfold zeros; rw [clls, unscopedSems0_eq, ownSems0_eq]

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun o : Cl => iprop(∃ κ : ℕ, cellInv ER (Rd m ρ) κ (kcell (c, o))))
          ∗ ownPos (F := F) c ∗ ownReached (F := F) c ∗ ownToks (F := F) c) := by
  unfold G
  iintro ⟨Hos, Hus, Hst, Hrest⟩
  ihave Hv := (sems0_eq (F := F) c) $$ [Hos Hus]
  · isplitl [Hus] <;> iassumption
  imod (show iprop((bigSep Finset.univ fun o : Cl => semVal (kcell (c, o)) 0) ∗ bigSep Finset.univ fun o : Cl => roundState ER (Rd m ρ) (kcell (c, o)) 0)
      ⊢ (|={Set.univ}=> bigSep Finset.univ fun o : Cl => iprop(∃ κ : ℕ, cellInv ER (Rd m ρ) κ (kcell (c, o))) : sProp 𝕄) from by
        rw [← bigSep_sep']
        exact (bigSep_mono fun o _ => (Rounds.body_intro ER (Rd m ρ) (kcell (c, o))).trans inv_alloc).trans (bigSep_fupd _ _)) $$ [Hv Hst] with Hinv
  · isplitl [Hv] <;> iassumption
  imodintro
  isplitl [Hinv]; · iexact Hinv
  iexact Hrest

omit [FloatOps F] in
/-- Every token dealt to the device that pays with it. -/
theorem deal : iprop((bigSep Finset.univ fun c : Dev nD => ownPos (F := F) c) ∗ bigSep Finset.univ fun c : Dev nD => ownToks (F := F) c)
    ⊢ bigSep Finset.univ fun c : Dev nD => linear (F := F) c := by
  have hbar (b : Bool) : (bigSep Finset.univ fun c : Dev nD => (dutyTok ER (barCell c) 0 b : sProp 𝕄))
      = bigSep Finset.univ fun c : Dev nD => dutyTok ER (barCell (side b c)) 0 b :=
    bigSep_univ_equiv (sideEquiv b) _
  have hrecv : (bigSep Finset.univ fun c : Dev nD => bigSep Finset.univ fun j : Chan => (dutyTok ER (recvCell c j) 0 false : sProp 𝕄))
      = bigSep Finset.univ fun c : Dev nD => bigSep Finset.univ fun j : Chan => dutyTok ER (recvCell (peer j c) j) 0 false := by
    rw [bigSep_univ_comm, bigSep_univ_comm fun c j => dutyTok ER (recvCell (peer j c) j) 0 false]
    exact bigSep_congr fun j _ => bigSep_univ_equiv (peerEquiv j) _
  have htok (c : Dev nD) : ownToks (F := F) c = iprop((dutyTok ER (barCell c) 0 true ∗ dutyTok ER (barCell c) 0 false)
      ∗ (bigSep Finset.univ fun j => dutyTok ER (sendCell c j) 0 false) ∗ bigSep Finset.univ fun j => dutyTok ER (recvCell c j) 0 false) := by
    unfold ownToks
    rw [bigSep_univ_sum, bigSep_univ_sum, bigSep_univ_eq_bigSepL [true, false] (by decide) (by decide)]; rfl
  unfold ownPos linear pos
  simp only [htok, clls, bigSep_sep']
  rw [hbar, hbar, hrecv]
  iintro ⟨⟨H1, H2, H3⟩, ⟨H4, H5⟩, H6, H7⟩
  isplitl [H1]; · iexact H1
  isplitl [H4]; · iexact H4
  isplitl [H5]; · iexact H5
  isplitl [H2]; · iexact H2
  isplitl [H3]; · iexact H3
  isplitl [H6] <;> iassumption

theorem regroup :
    (bigSep Finset.univ fun c : Dev nD => iprop((bigSep Finset.univ fun o : Cl => iprop(∃ κ : ℕ, cellInv ER (Rd m ρ) κ (kcell (c, o))))
          ∗ ownPos (F := F) c ∗ ownReached (F := F) c ∗ ownToks (F := F) c) : sProp 𝕄)
      ⊢ bigSep Finset.univ (G' m ρ) := by
  rw [bigSep_sep', bigSep_sep', bigSep_sep', ← bigSep_univ_prod (fun ck : Dev nD × Cl => iprop(∃ κ : ℕ, cellInv ER (Rd m ρ) κ (kcell ck)))]
  unfold ownReached
  rw [← bigSep_univ_prod (fun ck : Dev nD × Cl => (reached ER (kcell ck) 0 : sProp 𝕄))]
  iintro ⟨HI, Hat, #HR, Htok⟩
  ihave HK := (BI.bigSep_exists_pi Finset.univ (fun (ck : Dev nD × Cl) (κ : ℕ) => (cellInv ER (Rd m ρ) κ (kcell ck) : sProp 𝕄))) $$ HI
  icases HK with ⟨%K, #HI⟩
  ihave Hl := (deal (F := F)) $$ [Hat Htok]
  · isplitl [Hat] <;> iassumption
  have hG (c : Dev nD) : iprop(records m ρ K ∗ linear (F := F) c) ⊢ G' m ρ c := by
    unfold G'; iintro H; iexists K; iexact H
  iapply (bigSep_with_persistent (R := records m ρ K) fun c _ => hG c)
  isplitr
  · unfold records; isplitl; · iexact HI
    iexact HR
  · iexact Hl

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

theorem recv_eq_iff {a b : Dev nD} {j j' : Chan} : recvCell a j = recvCell b j' ↔ a = b ∧ j = j' := by
  constructor
  · intro h
    have := kcell_injective (a₁ := (a, .inr (.inr j))) (a₂ := (b, .inr (.inr j'))) h
    exact ⟨congrArg Prod.fst this, Sum.inr.inj (Sum.inr.inj (congrArg Prod.snd this))⟩
  · rintro ⟨rfl, rfl⟩; rfl
theorem bar_eq_iff {a b : Dev nD} : barCell a = barCell b ↔ a = b :=
  ⟨fun h => congrArg Prod.fst (kcell_injective (a₁ := (a, .inl ())) (a₂ := (b, .inl ())) h), fun h => h ▸ rfl⟩
theorem bar_ne_recv (a b : Dev nD) (j : Chan) : barCell a ≠ recvCell b j := fun h => by
  have := congrArg Prod.snd h; cases this

theorem toSend_recv (l : List Chan) (d c : Dev nD) (j : Chan) : toSend l d (recvCell c j) () = if d = peer j c then N * l.count j else 0 := by
  induction l with
  | nil => rw [List.count_nil, Nat.mul_zero, ite_self]; rfl
  | cons j' l ih =>
    rw [show toSend (j' :: l) d = toSend l d + tallyAt (recvCell (peer j' d) j') () N from rfl, Pi.add_apply, Finsupp.add_apply, ih, tallyAt_apply, List.count_cons]
    by_cases hj : j' = j
    · subst hj
      by_cases hd : d = peer j' c
      · rw [if_pos hd, if_pos hd, if_pos ⟨by rw [hd, peer_peer], rfl⟩, if_pos (beq_self_eq_true _), Nat.mul_add, Nat.mul_one]
      · rw [if_neg hd, if_neg hd, if_neg (fun h => hd (by rw [(recv_eq_iff.mp h.1).1, peer_peer]))]
    · rw [if_neg (c := recvCell c j = recvCell (peer j' d) j' ∧ () = ()) (fun h => hj (recv_eq_iff.mp h.1).2.symm),
        if_neg (c := (j' == j) = true) (by simpa using hj), Nat.add_zero, Nat.add_zero]

theorem toSend_bar (l : List Chan) (d c : Dev nD) : toSend l d (barCell c) () = 0 := by
  by_contra h
  obtain ⟨j, -, e⟩ := toSend_pos (Nat.pos_of_ne_zero h)
  exact bar_ne_recv _ _ _ e

theorem owed_bar (d c : Dev nD) : O₀ d (barCell c) () = (if d = side false c then 1 else 0) + (if d = side true c then 1 else 0) := by
  have h (b : Bool) : (barCell c = barCell (side b d) ∧ () = ()) ↔ d = side b c := by
    rw [bar_eq_iff]; exact ⟨fun h => by rw [h.1, side_side], fun h => ⟨by rw [h, side_side], rfl⟩⟩
  unfold O₀ O₁
  rw [Pi.add_apply, Finsupp.add_apply, Pi.add_apply, Finsupp.add_apply, toSend_bar, tallyAt_apply, tallyAt_apply, Nat.zero_add]
  rw [if_congr (h false) rfl rfl, if_congr (h true) rfl rfl]

theorem owed_recv (d c : Dev nD) (j : Chan) : O₀ d (recvCell c j) () = if d = peer j c then N else 0 := by
  unfold O₀ O₁
  rw [Pi.add_apply, Finsupp.add_apply, Pi.add_apply, Finsupp.add_apply, toSend_recv, tallyAt_ne_cell (bar_ne_recv _ _ _).symm,
    tallyAt_ne_cell (bar_ne_recv _ _ _).symm, Finsupp.zero_apply, Nat.add_zero, Nat.add_zero,
    show order.count j = 1 from by revert j; decide, Nat.mul_one]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (side false c) fun _ => 1, Finset.sum_ite_eq' Finset.univ (side true c) fun _ => 1, if_pos (Finset.mem_univ _), if_pos (Finset.mem_univ _)]

theorem launch_recv (c : Dev nD) (j : Chan) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ (peer j c) fun _ => N, if_pos (Finset.mem_univ _)]

omit [FloatOps F] in
theorem creds (c : Dev nD) : (Pipeline.launchCred O₀ c : sProp 𝕄) ⊢ credits (F := F) c := by
  unfold Pipeline.launchCred credits
  refine (bigSep_subset (Finset.subset_univ (Finset.univ.map ⟨csem, csem_injective⟩))).trans ?_
  rw [bigSep_map, clls]
  show iprop(cred (tallyOn (barCell c) (launchCredit (Pipeline.owing O₀) 0 (barCell c)))
      ∗ (bigSep Finset.univ fun j : Chan => cred (tallyOn (sendCell c j) (launchCredit (Pipeline.owing O₀) 0 (sendCell c j))))
      ∗ bigSep Finset.univ fun j : Chan => cred (tallyOn (recvCell c j) (launchCredit (Pipeline.owing O₀) 0 (recvCell c j))))
    ⊢ (iprop(cred (tallyAt (barCell c) () 2) ∗ bigSep Finset.univ fun j : Chan => cred (tallyAt (recvCell c j) () N)) : sProp 𝕄)
  iintro ⟨HB, -, HR⟩
  isplitl [HB]
  · rw [← launch_bar]; iexact HB
  · rw [show (bigSep Finset.univ fun j : Chan => (cred (tallyAt (recvCell c j) () N) : sProp 𝕄))
      = bigSep Finset.univ fun j : Chan => cred (tallyOn (recvCell c j) (launchCredit (Pipeline.owing O₀) 0 (recvCell c j))) from
        bigSep_congr fun j _ => by rw [launch_recv]]
    iexact HR

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_first c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On four devices, for any float values, from any memory with zero counters, every weakly fair execution ends, with
    every array at the computed contents. -/
theorem run_arrays : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := fun c => Entails.refl _)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KProof

end
-- ==== Proof.Final.lean ====
/-
The arrays at the end: the arguments as they were, the result as computed, chunk by chunk, from the whole arguments.
-/
module

public import proofs.«01_k».proof.Proof.Launch
public import Idealize.ShloMosaic.Lib.Pipeline.ValueKit.Geometry

@[expose] public section

noncomputable section

namespace Cert.KProof

open Cert.KernelIdeal Cert.KernelIdeal.Gen

open Idealize.ShloMosaic
open Idealize.ShloMosaic.TcCoe
open Idealize.SL.Sem
open Idealize.ShloMosaic.Pipeline (Dat Cfg Window)

variable {F : FTy → Type} [FloatOps F]

variable (m : (ℓ : Loc nD τ sig) → Buf (Elt F) ℓ) (ρ : Dev nD → PrngReg)

/-- The one window block of an argument is the argument. -/
theorem xstg_apply (c : Dev nD) (q : S4x512x256.Idx) : xstg m ρ c q = m ((c : Thread nD τ).loc main_arg0) q := by
  unfold xstg
  show m ((c : Thread nD τ).loc main_arg0) ((win0_0.blk (0 : Fin 1)).view.emb q) = _
  congr 1
  funext a
  apply Fin.ext
  exact win0_0.rect_emb_val_of_index_zero t0_0 a (by revert a; decide) q
theorem kstg_apply (c : Dev nD) (q : S4x256.Idx) : kstg m ρ c q = m ((c : Thread nD τ).loc main_arg1) q := by
  unfold kstg
  show m ((c : Thread nD τ).loc main_arg1) ((win0_1.blk (0 : Fin 1)).view.emb q) = _
  congr 1
  funext a
  apply Fin.ext
  exact win0_1.rect_emb_val_of_index_zero t0_0 a (by revert a; decide) q
theorem wstg_apply (c : Dev nD) (q : S256x256.Idx) : wstg m ρ c q = m ((c : Thread nD τ).loc main_arg2) q := by
  unfold wstg
  show m ((c : Thread nD τ).loc main_arg2) ((win0_2.blk (0 : Fin 1)).view.emb q) = _
  congr 1
  funext a
  apply Fin.ext
  exact win0_2.rect_emb_val_of_index_zero t0_0 a (by revert a; decide) q

theorem finalA_in (c : Dev nD) (w : Fin cfg0.W) (h : (cfg0.win w).isOut = false) :
    finalA m ρ c w = (s₀ m ρ).mem ((cfg0.win w).arr.view.loc (c : Thread nD τ)) :=
  (dats m ρ 0 c).arrAt_in w h _

theorem finalA_out (c : Dev nD) : finalA m ρ c 3 = outAt m ρ c :=
  (dats m ρ 0 c).arrAt_eq_of_after_last 3 t0_0 (by decide +kernel) _ fun j => by
    rfl

/-- The run, read: every device's result holds the computed chunks and its arguments are unchanged. -/
theorem run_main : θ_run defs (onTc (τ := τ) (main (F := F))) ⟨m, fun _ => 0, ρ⟩ (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun _ h => ⟨fun c => ⟨(h.1 c 3).trans (finalA_out m ρ c),
    (h.1 c 0).trans (finalA_in m ρ c 0 rfl), (h.1 c 1).trans (finalA_in m ρ c 1 rfl), (h.1 c 2).trans (finalA_in m ρ c 2 rfl)⟩, h.2⟩)
    (run_arrays m ρ)

end Cert.KProof

end
-- ==== Proof.Formula.lean ====
/-
The mathematics that kernel and reference share, at extended reals: the causal convolution of one channel with four
taps, the gate, and one channel's share of the product.
-/
module

public import Idealize.ShloMosaic.Lib.Pointwise

@[expose] public section

noncomputable section

namespace Cert.KFormula

open Idealize.ShloMosaic

/-- The signal `d` steps earlier, zero before its start. -/
def tap (X : Fin 512 → EReal) (d : ℕ) (s : Fin 512) : EReal := if h : (s : ℕ) < d then 0 else X ⟨s - d, by omega⟩
/-- The causal convolution of a channel with its four coefficients: the last one meets the present. -/
def mixed (X : Fin 512 → EReal) (K : Fin 4 → EReal) (s : Fin 512) : EReal :=
  X s * K 3 + tap X 1 s * K 2 + tap X 2 s * K 1 + tap X 3 s * K 0
def gated (v : EReal) : EReal := v * Ideal.logistic v
/-- One channel's share of one element of the product. -/
def share (X : Fin 512 → EReal) (K : Fin 4 → EReal) (w : EReal) (s : Fin 512) : EReal := gated (mixed X K s) * w

/-- The gate as the quotient `v / (1 + e⁻ᵛ)`, infinities included. -/
theorem div_eq_gated (v : EReal) : Ideal.div v (1 + Ideal.exp (-v)) = gated v := by
  have h0 : 0 ≤ Ideal.exp (-v) := by
    induction v using EReal.rec with
    | bot => simp
    | top => simp
    | coe r => rw [← EReal.coe_neg, Ideal.exp_coe]; exact_mod_cast (Real.exp_pos _).le
  have h : (1 : EReal) + Ideal.exp (-v) ≠ 0 := (lt_of_lt_of_le zero_lt_one (le_add_of_nonneg_right h0)).ne'
  unfold gated Ideal.logistic Ideal.div
  rw [if_neg h, if_neg h, one_mul]

/-- The four terms with the oldest first. -/
theorem mixed_oldest_first (X : Fin 512 → EReal) (K : Fin 4 → EReal) (s : Fin 512) :
    tap X 3 s * K 0 + tap X 2 s * K 1 + tap X 1 s * K 2 + X s * K 3 = mixed X K s := by
  unfold mixed; ac_rfl

/-- A tap as a place of the signal with three zeros in front. -/
theorem tap_padded (X : Fin 512 → EReal) (t d : ℕ) (hd : t + d = 3) (s : Fin 512) :
    (if h : t + (s : ℕ) < 3 then (0 : EReal) else X ⟨t + s - 3, by omega⟩) = tap X d s := by
  unfold tap
  by_cases h : (s : ℕ) < d
  · rw [dif_pos h, dif_pos (by omega)]
  · rw [dif_neg h, dif_neg (by omega)]
    congr 2; omega

/-- A sum over the 1024 channels, device by device. -/
theorem sum_channels (f : Fin 1024 → EReal) :
    ∑ k, f k = ∑ d : Fin 4, ∑ j : Fin 256, f ⟨(d : ℕ) * 256 + j, by omega⟩ := Fin.sum_univ_tiles 4 256 rfl f

end Cert.KFormula

end
-- ==== Proof.Value.lean ====
/-
What the kernel computes at extended reals, element by element: the sum over the devices of their channels' shares.
-/
module

public import proofs.«01_k».proof.Proof.Final
public import proofs.«01_k».proof.Proof.Formula

@[expose] public section

noncomputable section

namespace Cert.KProof

open Cert.KernelIdeal Cert.KernelIdeal.Gen Cert.KFormula

open Idealize.ShloMosaic Idealize.ShloMosaic.Pointwise Idealize.ShloMosaic.TcCoe

theorem sumF_apply (a b : Chunk Ideal) (q : S1x512x256.Idx) : sumF a b q = (a q + b q : EReal) := by
  pointwise [sumF, k0_pay16]

theorem chunkF_apply (k : Vec Ideal S4x256 .bf16) (w : Vec Ideal S256x256 .bf16) (x : Chunk Ideal) (s : Fin 512) (n : Fin 256) :
    chunkF k w x (ix3 0 s n) = ∑ ch : Fin 256, share (fun s => x (ix3 0 s ch)) (fun t => k (ix2 t ch)) (w (ix2 ch n)) s := by
  pointwise [chunkF, k0_pay13, k0_pay2, k0_pay3]
  rfl

variable (m : (ℓ : Loc nD τ sig) → Buf (Elt Ideal) ℓ) (ρ : Dev nD → PrngReg)

/-- The share of the element (`b`, `s`, `n`) of the result that device `d` has: its 256 channels'. -/
def devShare (d : Dev nD) (b : Fin 4) (s : Fin 512) (n : Fin 256) : EReal :=
  ∑ ch : Fin 256, share (fun s => m ((d : Thread nD τ).loc main_arg0) (ix3 b s ch)) (fun t => m ((d : Thread nD τ).loc main_arg1) (ix2 t ch))
    (m ((d : Thread nD τ).loc main_arg2) (ix2 ch n)) s

theorem slot_emb_ix3 (b : Fin 4) (s : Fin 512) (n : Fin 256) : (slot b).emb (ix3 0 s n : S1x512x256.Idx) = (ix3 b s n : S4x512x256.Idx) := by
  have h := slot_emb_inSlot (ix3 b s n : S4x512x256.Idx)
  rwa [show inSlot (ix3 b s n : S4x512x256.Idx) = (ix3 0 s n : S1x512x256.Idx) by funext a; fin_cases a <;> rfl] at h

theorem part_apply (d : Dev nD) (b : Fin 4) (s : Fin 512) (n : Fin 256) : part m ρ d b (ix3 0 s n) = devShare m d b s n := by
  unfold part devShare
  rw [chunkF_apply]
  refine Finset.sum_congr rfl fun ch _ => ?_
  rw [wstg_apply]
  congr 1
  · funext s
    show xstg m ρ d ((slot b).emb (ix3 0 s ch : S1x512x256.Idx)) = _
    rw [slot_emb_ix3, xstg_apply]
  · funext t; exact kstg_apply m ρ d _

/-- A device, its partner of the first exchange, its partner of the second and that one's partner are all the devices. -/
theorem four_devices : ∀ (i : Fin 4) (c : Dev nD),
    (Finset.univ : Finset (Dev nD)).val = ([c, peer (0, i) c, peer (1, i) c, peer (0, i) (peer (1, i) c)] : List (Dev nD)) := by decide +kernel

theorem sum_devices (f : Dev nD → EReal) (i : Fin 4) (c : Dev nD) :
    f c + f (peer (0, i) c) + (f (peer (1, i) c) + f (peer (0, i) (peer (1, i) c))) = ∑ d, f d := by
  show _ = (Finset.univ.val.map f).sum
  rw [four_devices i c]
  simp [add_assoc]

/-- Every device ends with the sum over all devices. -/
theorem outAt_apply (c : Dev nD) (b : Fin 4) (s : Fin 512) (n : Fin 256) : outAt m ρ c (ix3 b s n) = ∑ d : Dev nD, devShare m d b s n := by
  have h : outAt m ρ c (ix3 b s n) = outC m ρ c b (ix3 0 s n) := by
    have h := congrFun (glue_emb (outC m ρ c) b) (ix3 0 s n)
    rwa [slot_emb_ix3] at h
  rw [h]
  unfold outC
  rw [sumF_apply]
  show sumF _ _ _ + sumF _ _ _ = _
  rw [sumF_apply, sumF_apply, part_apply, part_apply, part_apply, part_apply]
  exact sum_devices (fun d => devShare m d b s n) b c

end Cert.KProof

end
-- ==== Proof.RefValue.lean ====
/-
What the reference computes at extended reals, element by element: the sum over all channels of their shares.
-/
module

public import proofs.«01_k».proof.Proof.Gen.ReferenceIdeal.Run
public import proofs.«01_k».proof.Proof.Formula

@[expose] public section

noncomputable section

namespace Cert.KProof

open Cert.ReferenceIdeal Cert.ReferenceIdeal.Gen Cert.ReferenceIdeal.Value Cert.KFormula

open Idealize.ShloMosaic Idealize.ShloMosaic.Pointwise Idealize.ShloMosaic.TcCoe

theorem ref_apply (m : (ℓ : Loc nD τ sig) → Buf (Elt Ideal) ℓ) (c : Dev nD) (b : Fin 4) (s : Fin 512) (n : Fin 256) :
    res_out0 m c (ix3 b s n) = (∑ ch : Fin 1024, share (fun s => m ((c : Thread nD τ).loc main_arg0) (ix3 b s ch))
      (fun t => m ((c : Thread nD τ).loc main_arg1) (ix2 t ch)) (m ((c : Thread nD τ).loc main_arg2) (ix2 ch n)) s : EReal) := by
  pointwise [res_main_v40]
  refine congrArg (fun f : Fin 1024 → EReal => ∑ ch, f ch) (funext fun ch => ?_)
  rw [div_eq_gated]
  unfold share
  rw [← mixed_oldest_first, ← tap_padded _ 1 2 rfl, ← tap_padded _ 2 1 rfl]
  rfl

end Cert.KProof

end
-- ==== Proof.Algebraic.lean ====
/-
The five claims: the runs of the three programs, and the kernel's result equal to the reference's.
-/
module

public import proofs.«01_k».proof.Defs
public import proofs.«01_k».proof.Proof.Gen.Kernel
public import proofs.«01_k».proof.Proof.Value
public import proofs.«01_k».proof.Proof.RefValue
public import Idealize.ShloMosaic.Lib.Layout

@[expose] public section

noncomputable section

namespace Cert.KProof

open Cert.KFormula

open Idealize.ShloMosaic Idealize.ShloMosaic.Pointwise Idealize.ShloMosaic.TcCoe Idealize.SL.Sem

open Cert.KernelIdeal in
/-- The run as the frames state it: arguments unchanged, counters at zero. -/
theorem run_frame {F : FTy → Type} [FloatOps F] (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  (θ_run defs _ _).mono (fun _ h => ⟨fun c => (h.1 c).2, h.2⟩) (run_main m ρ)

set_option smartUnfolding false in
/-- The printed kernel and its idealization are one text, so one run serves both. -/
theorem frame_kernel : Cert.quiescent_Kernel := fun m ρ _ => run_frame (F := Bits) m ρ
/-- The frame over the extended reals. -/
theorem frame_kernelIdeal : Cert.quiescent_KernelIdeal := fun m ρ _ => run_frame (F := Ideal) m ρ

/-- The reference runs host operations only and declares no semaphore. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

open Cert.KernelIdeal in
/-- The devices' channels laid side by side are the reference's. -/
theorem devShare_eq (m : (ℓ : Loc nD τ sig) → Buf (Elt Ideal) ℓ) (d : Fin 4) (X : Cert.ReferenceIdeal.S4x512x1024.Idx → EReal)
    (K : Cert.ReferenceIdeal.S4x1024.Idx → EReal) (W : Cert.ReferenceIdeal.S1024x256.Idx → EReal)
    (hX : m (((d : Dev nD) : Thread nD τ).loc main_arg0) = Layout.block ⟨3, ![4, 512, 256]⟩ ⟨3, ![4, 512, 1024]⟩ 2 4 d X)
    (hK : m (((d : Dev nD) : Thread nD τ).loc main_arg1) = Layout.block ⟨2, ![4, 256]⟩ ⟨2, ![4, 1024]⟩ 1 4 d K)
    (hW : m (((d : Dev nD) : Thread nD τ).loc main_arg2) = Layout.block ⟨2, ![256, 256]⟩ ⟨2, ![1024, 256]⟩ 0 4 d W) (b : Fin 4) (s : Fin 512) (n : Fin 256) :
    devShare m d b s n = ∑ j : Fin 256, (fun ch : Fin 1024 => share (fun s => X (ix3 b s ch)) (fun t => K (ix2 t ch)) (W (ix2 ch n)) s)
      ⟨(d : ℕ) * 256 + j, by omega⟩ := by
  unfold devShare
  rw [hX, hK, hW]
  refine Finset.sum_congr rfl fun j _ => ?_
  show share (fun s => X _) (fun t => K _) (W _) s = share (fun s => X _) (fun t => K _) (W _) s
  congr 1
  · funext s; congr 1; idx_ext
  · funext t; congr 1; idx_ext
  · congr 1; idx_ext

open Cert.ReferenceIdeal in
/-- From arguments that are the blocks of the reference's, every device ends with the reference's whole result. -/
theorem algebraic : Cert.algebraic_KernelIdeal_ReferenceIdeal := by
  intro m g m' g' _ hm
  refine ⟨Cert.ReferenceIdeal.Value.res_out0 m' 0, ?_, ?_⟩
  · refine (θ_run Cert.KernelIdeal.defs _ _).mono (fun r h c => ⟨(h.1 c).1.trans ?_, (h.1 c).2⟩) (run_main (F := Ideal) m g)
    refine funext fun (q : Cert.ReferenceIdeal.S4x512x256.Idx) => ?_
    obtain ⟨b, s, n, rfl⟩ : ∃ (b : Fin 4) (s : Fin 512) (n : Fin 256), q = ix3 b s n := ⟨q 0, q 1, q 2, by idx_ext⟩
    refine (outAt_apply m g c b s n).trans (Eq.trans ?_ (ref_apply m' 0 b s n).symm)
    refine Eq.trans ?_ (sum_channels _).symm
    exact congrArg (fun f : Fin 4 → EReal => ∑ d, f d)
      (funext fun d => devShare_eq m d _ _ _ (hm d).1 (hm d).2.1 (hm d).2.2 b s n)
  · exact (θ_run Cert.ReferenceIdeal.defs _ _).mono (fun r h => h 0) (Cert.ReferenceIdeal.Value.run (F := Ideal) m' g')

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  KProof.frame_kernel, KProof.frame_kernelIdeal, KProof.frame_reference, trivial, KProof.algebraic⟩

end Cert.Proof

end
